-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4096 : Shape := ⟨3, ![8, 1, 4096]⟩
abbrev S14336x2048 : Shape := ⟨2, ![14336, 2048]⟩
abbrev S14336x16 : Shape := ⟨2, ![14336, 16]⟩
abbrev S14336x128 : Shape := ⟨2, ![14336, 128]⟩
abbrev S8x4096 : Shape := ⟨2, ![8, 4096]⟩
abbrev S28x128x4x16 : Shape := ⟨4, ![28, 128, 4, 16]⟩
abbrev S28x16x4x128 : Shape := ⟨4, ![28, 16, 4, 128]⟩
abbrev S14x32x256 : Shape := ⟨3, ![14, 32, 256]⟩
abbrev S8x16 : Shape := ⟨2, ![8, 16]⟩
abbrev S1024x2048 : Shape := ⟨2, ![1024, 2048]⟩
abbrev S2x16x4x128 : Shape := ⟨4, ![2, 16, 4, 128]⟩
abbrev S1024x128 : Shape := ⟨2, ![1024, 128]⟩
abbrev S1x32x256 : Shape := ⟨3, ![1, 32, 256]⟩
abbrev S128x256 : Shape := ⟨2, ![128, 256]⟩
abbrev S2x32x8192 : Shape := ⟨3, ![2, 32, 8192]⟩
abbrev S2x2x64x8x128 : Shape := ⟨5, ![2, 2, 64, 8, 128]⟩
abbrev S8x256 : Shape := ⟨2, ![8, 256]⟩
abbrev S8 : Shape := ⟨1, ![8]⟩
abbrev S8x1 : Shape := ⟨2, ![8, 1]⟩
abbrev S256x512 : Shape := ⟨2, ![256, 512]⟩
abbrev S8x512 : Shape := ⟨2, ![8, 512]⟩
abbrev S128x512 : Shape := ⟨2, ![128, 512]⟩
abbrev S32x512 : Shape := ⟨2, ![32, 512]⟩
abbrev S1x32x512 : Shape := ⟨3, ![1, 32, 512]⟩
abbrev S512x128 : Shape := ⟨2, ![512, 128]⟩
abbrev S128x128 : Shape := ⟨2, ![128, 128]⟩
abbrev S16x4x8x128 : Shape := ⟨4, ![16, 4, 8, 128]⟩
abbrev S1x16x4x128 : Shape := ⟨4, ![1, 16, 4, 128]⟩
abbrev S16x4x128 : Shape := ⟨3, ![16, 4, 128]⟩
abbrev S16x8x128 : Shape := ⟨3, ![16, 8, 128]⟩
abbrev S16x1x8x128 : Shape := ⟨4, ![16, 1, 8, 128]⟩
abbrev S64x8x128 : Shape := ⟨3, ![64, 8, 128]⟩
abbrev S64x4x128 : Shape := ⟨3, ![64, 4, 128]⟩
abbrev S1x1x64x4x128 : Shape := ⟨5, ![1, 1, 64, 4, 128]⟩
abbrev S32x256 : Shape := ⟨2, ![32, 256]⟩
abbrev S4x16x8x128 : Shape := ⟨4, ![4, 16, 8, 128]⟩
abbrev S1x1x4x8x128 : Shape := ⟨5, ![1, 1, 4, 8, 128]⟩
abbrev S4x8x128 : Shape := ⟨3, ![4, 8, 128]⟩
abbrev S4x1x8x128 : Shape := ⟨4, ![4, 1, 8, 128]⟩
abbrev S512x256 : Shape := ⟨2, ![512, 256]⟩
abbrev S14x4x8x2x128 : Shape := ⟨5, ![14, 4, 8, 2, 128]⟩
abbrev S8x14x2x128x4 : Shape := ⟨5, ![8, 14, 2, 128, 4]⟩
abbrev S8x1x14336 : Shape := ⟨3, ![8, 1, 14336]⟩
abbrev S8x1x16 : Shape := ⟨3, ![8, 1, 16]⟩

abbrev nBuf : Space → Nat
  | .hbm => 19
  | .vmem => 19
  | .smem => 0
  | _ => 0

abbrev bufTy : (tb : Table) → Fin (tcTables nBuf tb) → BufTy
  | .hbm, ⟨0, _⟩ => ⟨S8x1x4096, .bf16⟩
  | .hbm, ⟨1, _⟩ => ⟨S14336x2048, .i8⟩
  | .hbm, ⟨2, _⟩ => ⟨S14336x16, .f16⟩
  | .hbm, ⟨3, _⟩ => ⟨S14336x16, .f16⟩
  | .hbm, ⟨4, _⟩ => ⟨S14336x128, .i8⟩
  | .hbm, ⟨5, _⟩ => ⟨S14336x128, .i8⟩
  | .hbm, ⟨6, _⟩ => ⟨S8x4096, .bf16⟩
  | .hbm, ⟨7, _⟩ => ⟨S28x128x4x16, .f16⟩
  | .hbm, ⟨8, _⟩ => ⟨S28x16x4x128, .f16⟩
  | .hbm, ⟨9, _⟩ => ⟨S28x128x4x16, .f16⟩
  | .hbm, ⟨10, _⟩ => ⟨S28x16x4x128, .f16⟩
  | .hbm, ⟨11, _⟩ => ⟨S14x32x256, .bf16⟩
  | .hbm, ⟨12, _⟩ => ⟨S8x4096, .i8⟩
  | .hbm, ⟨13, _⟩ => ⟨S8x16, .f32⟩
  | .hbm, ⟨14, _⟩ => ⟨S14x4x8x2x128, .bf16⟩
  | .hbm, ⟨15, _⟩ => ⟨S8x14x2x128x4, .bf16⟩
  | .hbm, ⟨16, _⟩ => ⟨S8x1x14336, .bf16⟩
  | .hbm, ⟨17, _⟩ => ⟨S8x1x4096, .i8⟩
  | .hbm, ⟨18, _⟩ => ⟨S8x1x16, .f32⟩
  | .local _ .vmem, ⟨0, _⟩ => ⟨S8x4096, .bf16⟩
  | .local _ .vmem, ⟨1, _⟩ => ⟨S1024x2048, .i8⟩
  | .local _ .vmem, ⟨2, _⟩ => ⟨S1024x2048, .i8⟩
  | .local _ .vmem, ⟨3, _⟩ => ⟨S2x16x4x128, .f16⟩
  | .local _ .vmem, ⟨4, _⟩ => ⟨S2x16x4x128, .f16⟩
  | .local _ .vmem, ⟨5, _⟩ => ⟨S2x16x4x128, .f16⟩
  | .local _ .vmem, ⟨6, _⟩ => ⟨S2x16x4x128, .f16⟩
  | .local _ .vmem, ⟨7, _⟩ => ⟨S1024x128, .i8⟩
  | .local _ .vmem, ⟨8, _⟩ => ⟨S1024x128, .i8⟩
  | .local _ .vmem, ⟨9, _⟩ => ⟨S1024x128, .i8⟩
  | .local _ .vmem, ⟨10, _⟩ => ⟨S1024x128, .i8⟩
  | .local _ .vmem, ⟨11, _⟩ => ⟨S1x32x256, .bf16⟩
  | .local _ .vmem, ⟨12, _⟩ => ⟨S1x32x256, .bf16⟩
  | .local _ .vmem, ⟨13, _⟩ => ⟨S8x4096, .i8⟩
  | .local _ .vmem, ⟨14, _⟩ => ⟨S8x16, .f32⟩
  | .local _ .vmem, ⟨15, _⟩ => ⟨S128x256, .f32⟩
  | .local _ .vmem, ⟨16, _⟩ => ⟨S2x32x8192, .bf16⟩
  | .local _ .vmem, ⟨17, _⟩ => ⟨S2x2x64x8x128, .f32⟩
  | .local _ .vmem, ⟨18, _⟩ => ⟨S2x2x64x8x128, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x4x128 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16x4x128 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8x1x4096 : Shape := ⟨3, ![8, 1, 4096]⟩
abbrev S14336x2048 : Shape := ⟨2, ![14336, 2048]⟩
abbrev S14336x16 : Shape := ⟨2, ![14336, 16]⟩
abbrev S14336x128 : Shape := ⟨2, ![14336, 128]⟩
abbrev S8x1x16x256 : Shape := ⟨4, ![8, 1, 16, 256]⟩
abbrev S_ : Shape := ⟨0, ![]⟩
abbrev S8x1x16 : Shape := ⟨3, ![8, 1, 16]⟩
abbrev S8x1x16x1 : Shape := ⟨4, ![8, 1, 16, 1]⟩
abbrev S8x1x64x2x32 : Shape := ⟨5, ![8, 1, 64, 2, 32]⟩
abbrev S8x1x64x1x32 : Shape := ⟨5, ![8, 1, 64, 1, 32]⟩
abbrev S8x1x64x32 : Shape := ⟨4, ![8, 1, 64, 32]⟩
abbrev S8x1x2048 : Shape := ⟨3, ![8, 1, 2048]⟩
abbrev S14336x16x1 : Shape := ⟨3, ![14336, 16, 1]⟩
abbrev S14336x16x4 : Shape := ⟨3, ![14336, 16, 4]⟩
abbrev S14336x64 : Shape := ⟨2, ![14336, 64]⟩
abbrev S14336x64x2 : Shape := ⟨3, ![14336, 64, 2]⟩
abbrev S14336x64x1 : Shape := ⟨3, ![14336, 64, 1]⟩
abbrev S14336x64x32 : Shape := ⟨3, ![14336, 64, 32]⟩
abbrev S8x1x14336 : Shape := ⟨3, ![8, 1, 14336]⟩

abbrev nBuf : Space → Nat
  | .hbm => 111
  | .vmem => 4
  | .smem => 0
  | _ => 0

abbrev bufTy : (tb : Table) → Fin (tcTables nBuf tb) → BufTy
  | .hbm, ⟨0, _⟩ => ⟨S8x1x4096, .bf16⟩
  | .hbm, ⟨1, _⟩ => ⟨S14336x2048, .i8⟩
  | .hbm, ⟨2, _⟩ => ⟨S14336x16, .f16⟩
  | .hbm, ⟨3, _⟩ => ⟨S14336x16, .f16⟩
  | .hbm, ⟨4, _⟩ => ⟨S14336x128, .i8⟩
  | .hbm, ⟨5, _⟩ => ⟨S14336x128, .i8⟩
  | .hbm, ⟨6, _⟩ => ⟨S14336x16, .f32⟩
  | .hbm, ⟨7, _⟩ => ⟨S14336x16, .f32⟩
  | .hbm, ⟨8, _⟩ => ⟨S8x1x4096, .f32⟩
  | .hbm, ⟨9, _⟩ => ⟨S8x1x16x256, .f32⟩
  | .hbm, ⟨10, _⟩ => ⟨S8x1x16x256, .f32⟩
  | .hbm, ⟨11, _⟩ => ⟨S_, .f32⟩
  | .hbm, ⟨12, _⟩ => ⟨S8x1x16, .f32⟩
  | .hbm, ⟨13, _⟩ => ⟨S_, .f32⟩
  | .hbm, ⟨14, _⟩ => ⟨S8x1x16, .f32⟩
  | .hbm, ⟨15, _⟩ => ⟨S8x1x16, .i1⟩
  | .hbm, ⟨16, _⟩ => ⟨S_, .f32⟩
  | .hbm, ⟨17, _⟩ => ⟨S8x1x16, .f32⟩
  | .hbm, ⟨18, _⟩ => ⟨S8x1x16, .f32⟩
  | .hbm, ⟨19, _⟩ => ⟨S_, .f32⟩
  | .hbm, ⟨20, _⟩ => ⟨S_, .f32⟩
  | .hbm, ⟨21, _⟩ => ⟨S8x1x16, .f32⟩
  | .hbm, ⟨22, _⟩ => ⟨S8x1x16, .f32⟩
  | .hbm, ⟨23, _⟩ => ⟨S8x1x16x1, .f32⟩
  | .hbm, ⟨24, _⟩ => ⟨S8x1x16x256, .f32⟩
  | .hbm, ⟨25, _⟩ => ⟨S8x1x16x256, .f32⟩
  | .hbm, ⟨26, _⟩ => ⟨S8x1x16x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x1x16x256, .f32⟩
  | .hbm, ⟨31, _⟩ => ⟨S8x1x16x256, .f32⟩
  | .hbm, ⟨32, _⟩ => ⟨S_, .f32⟩
  | .hbm, ⟨33, _⟩ => ⟨S8x1x16x256, .f32⟩
  | .hbm, ⟨34, _⟩ => ⟨S8x1x16x256, .f32⟩
  | .hbm, ⟨35, _⟩ => ⟨S8x1x16x256, .i32⟩
  | .hbm, ⟨36, _⟩ => ⟨S8x1x16x256, .i8⟩
  | .hbm, ⟨37, _⟩ => ⟨S8x1x4096, .i8⟩
  | .hbm, ⟨38, _⟩ => ⟨S8x1x4096, .i32⟩
  | .hbm, ⟨39, _⟩ => ⟨S8x1x4096, .bf16⟩
  | .hbm, ⟨40, _⟩ => ⟨S8x1x16x256, .bf16⟩
  | .hbm, ⟨41, _⟩ => ⟨S8x1x16, .bf16⟩
  | .hbm, ⟨42, _⟩ => ⟨S8x1x16x1, .bf16⟩
  | .hbm, ⟨43, _⟩ => ⟨S8x1x16x256, .bf16⟩
  | .hbm, ⟨44, _⟩ => ⟨S8x1x16x256, .bf16⟩
  | .hbm, ⟨45, _⟩ => ⟨S8x1x64x2x32, .bf16⟩
  | .hbm, ⟨46, _⟩ => ⟨S8x1x64x1x32, .bf16⟩
  | .hbm, ⟨47, _⟩ => ⟨S8x1x64x32, .bf16⟩
  | .hbm, ⟨48, _⟩ => ⟨S8x1x2048, .bf16⟩
  | .hbm, ⟨49, _⟩ => ⟨S8x1x64x1x32, .bf16⟩
  | .hbm, ⟨50, _⟩ => ⟨S8x1x64x32, .bf16⟩
  | .hbm, ⟨51, _⟩ => ⟨S8x1x2048, .bf16⟩
  | .hbm, ⟨52, _⟩ => ⟨S14336x16x1, .f32⟩
  | .hbm, ⟨53, _⟩ => ⟨S14336x16x4, .f32⟩
  | .hbm, ⟨54, _⟩ => ⟨S14336x64, .f32⟩
  | .hbm, ⟨55, _⟩ => ⟨S14336x16x1, .f32⟩
  | .hbm, ⟨56, _⟩ => ⟨S14336x16x4, .f32⟩
  | .hbm, ⟨57, _⟩ => ⟨S14336x64, .f32⟩
  | .hbm, ⟨58, _⟩ => ⟨S14336x64x2, .i8⟩
  | .hbm, ⟨59, _⟩ => ⟨S14336x64x2, .i8⟩
  | .hbm, ⟨60, _⟩ => ⟨S14336x2048, .i32⟩
  | .hbm, ⟨61, _⟩ => ⟨S_, .i32⟩
  | .hbm, ⟨62, _⟩ => ⟨S14336x2048, .i32⟩
  | .hbm, ⟨63, _⟩ => ⟨S14336x2048, .i32⟩
  | .hbm, ⟨64, _⟩ => ⟨S14336x64x1, .i8⟩
  | .hbm, ⟨65, _⟩ => ⟨S14336x64, .i8⟩
  | .hbm, ⟨66, _⟩ => ⟨S14336x64x1, .i8⟩
  | .hbm, ⟨67, _⟩ => ⟨S14336x64, .i8⟩
  | .hbm, ⟨68, _⟩ => ⟨S14336x64, .i32⟩
  | .hbm, ⟨69, _⟩ => ⟨S14336x64, .f32⟩
  | .hbm, ⟨70, _⟩ => ⟨S14336x64, .f32⟩
  | .hbm, ⟨71, _⟩ => ⟨S14336x64, .i32⟩
  | .hbm, ⟨72, _⟩ => ⟨S14336x64, .f32⟩
  | .hbm, ⟨73, _⟩ => ⟨S14336x64, .f32⟩
  | .hbm, ⟨74, _⟩ => ⟨S14336x64x1, .f32⟩
  | .hbm, ⟨75, _⟩ => ⟨S14336x64x32, .f32⟩
  | .hbm, ⟨76, _⟩ => ⟨S14336x2048, .f32⟩
  | .hbm, ⟨77, _⟩ => ⟨S14336x64x1, .f32⟩
  | .hbm, ⟨78, _⟩ => ⟨S14336x64x32, .f32⟩
  | .hbm, ⟨79, _⟩ => ⟨S14336x2048, .f32⟩
  | .hbm, ⟨80, _⟩ => ⟨S14336x2048, .f32⟩
  | .hbm, ⟨81, _⟩ => ⟨S14336x2048, .f32⟩
  | .hbm, ⟨82, _⟩ => ⟨S14336x2048, .f32⟩
  | .hbm, ⟨83, _⟩ => ⟨S14336x2048, .bf16⟩
  | .hbm, ⟨84, _⟩ => ⟨S_, .i32⟩
  | .hbm, ⟨85, _⟩ => ⟨S14336x2048, .i32⟩
  | .hbm, ⟨86, _⟩ => ⟨S14336x2048, .i32⟩
  | .hbm, ⟨87, _⟩ => ⟨S14336x64x1, .i8⟩
  | .hbm, ⟨88, _⟩ => ⟨S14336x64, .i8⟩
  | .hbm, ⟨89, _⟩ => ⟨S14336x64x1, .i8⟩
  | .hbm, ⟨90, _⟩ => ⟨S14336x64, .i8⟩
  | .hbm, ⟨91, _⟩ => ⟨S14336x64, .i32⟩
  | .hbm, ⟨92, _⟩ => ⟨S14336x64, .f32⟩
  | .hbm, ⟨93, _⟩ => ⟨S14336x64, .f32⟩
  | .hbm, ⟨94, _⟩ => ⟨S14336x64, .i32⟩
  | .hbm, ⟨95, _⟩ => ⟨S14336x64, .f32⟩
  | .hbm, ⟨96, _⟩ => ⟨S14336x64, .f32⟩
  | .hbm, ⟨97, _⟩ => ⟨S14336x64x1, .f32⟩
  | .hbm, ⟨98, _⟩ => ⟨S14336x64x32, .f32⟩
  | .hbm, ⟨99, _⟩ => ⟨S14336x2048, .f32⟩
  | .hbm, ⟨100, _⟩ => ⟨S14336x64x1, .f32⟩
  | .hbm, ⟨101, _⟩ => ⟨S14336x64x32, .f32⟩
  | .hbm, ⟨102, _⟩ => ⟨S14336x2048, .f32⟩
  | .hbm, ⟨103, _⟩ => ⟨S14336x2048, .f32⟩
  | .hbm, ⟨104, _⟩ => ⟨S14336x2048, .f32⟩
  | .hbm, ⟨105, _⟩ => ⟨S14336x2048, .f32⟩
  | .hbm, ⟨106, _⟩ => ⟨S14336x2048, .bf16⟩
  | .hbm, ⟨107, _⟩ => ⟨S8x1x14336, .f32⟩
  | .hbm, ⟨108, _⟩ => ⟨S8x1x14336, .f32⟩
  | .hbm, ⟨109, _⟩ => ⟨S8x1x14336, .f32⟩
  | .hbm, ⟨110, _⟩ => ⟨S8x1x14336, .bf16⟩
  | .local _ .vmem, ⟨0, _⟩ => ⟨S14336x16, .f16⟩
  | .local _ .vmem, ⟨1, _⟩ => ⟨S14336x16, .f16⟩
  | .local _ .vmem, ⟨2, _⟩ => ⟨S14336x16, .f32⟩
  | .local _ .vmem, ⟨3, _⟩ => ⟨S14336x16, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_5 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S14336x16 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x16 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Points.lean ====
/-
  What the hand proof of the kernel's run says of a grid point: the branch condition in closed form, the staging
  memrefs at a point, the scratch operands, and the launch invariant with the scratch as memrefs.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x16x4x128 .f16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x16x4x128 .f16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x16 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x256 .f32 := Memref.whole cc0_scratch0
abbrev scM0_1 : Memref sig .tc .vmem S2x32x8192 .bf16 := Memref.whole cc0_scratch1
abbrev scM0_2 : Memref sig .tc .vmem S2x2x64x8x128 .f32 := Memref.whole cc0_scratch2
abbrev scM0_3 : Memref sig .tc .vmem S2x2x64x8x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.RunFirst.lean ====
/-
  The kernel body run at the first grid point, where it also quantises the activations and expands the left factor.
-/
module

public import proofs.«01_k».proof.Proof.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 2400000 in
/-- At the first point: what the body leaves, as the list of its stores' pieces (last first), in the block of
    `y` (`L6`), in the codes (`L7`), in the scales (`L8`) and in the expanded left factor (`LS`), with the proof that the
    body run on whole memrefs, the inputs' at their contents, ends with the inputs as they were and those pieces written. -/
def runA (c : Dev nD) (i : grid0.Coords) (arg1 : Memref sig .tc .vmem S8x4096 .bf16) (harg1 : arg1.IsWhole) (arg2 : Memref sig .tc .vmem S1024x2048 .i8) (harg2 : arg2.IsWhole) (arg3 : Memref sig .tc .vmem S2x16x4x128 .f16) (harg3 : arg3.IsWhole) (arg4 : Memref sig .tc .vmem S2x16x4x128 .f16) (harg4 : arg4.IsWhole) (arg5 : Memref sig .tc .vmem S1024x128 .i8) (harg5 : arg5.IsWhole) (arg6 : Memref sig .tc .vmem S1024x128 .i8) (harg6 : arg6.IsWhole) (arg7 : Memref sig .tc .vmem S1x32x256 .bf16) (harg7 : arg7.IsWhole) (arg8 : Memref sig .tc .vmem S8x4096 .i8) (harg8 : arg8.IsWhole) (arg9 : Memref sig .tc .vmem S8x16 .f32) (harg9 : arg9.IsWhole) (arg10 : Memref sig .tc .vmem S128x256 .f32) (harg10 : arg10.IsWhole) (arg11 : Memref sig .tc .vmem S2x32x8192 .bf16) (harg11 : arg11.IsWhole) (arg12 : Memref sig .tc .vmem S2x2x64x8x128 .f32) (harg12 : arg12.IsWhole) (arg13 : Memref sig .tc .vmem S2x2x64x8x128 .f32) (harg13 : arg13.IsWhole) (hc0 : cond0_0 i)
    (x0 : Vec F S8x4096 .bf16) (x1 : Vec F S1024x2048 .i8) (x2 : Vec F S2x16x4x128 .f16) (x3 : Vec F S2x16x4x128 .f16) (x4 : Vec F S1024x128 .i8) (x5 : Vec F S1024x128 .i8) :
    Σ' (L6 : List (View.Piece (Elt F) S1x32x256 .bf16)) (L7 : List (View.Piece (Elt F) S8x4096 .i8)) (L8 : List (View.Piece (Elt F) S8x16 .f32)), { LS : List (View.Piece (Elt F) S2x32x8192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ f, arg11.view.loc (c : Thread nD τ) ↦[arg11.view.set]{fullShare} arg11.view.writes (Elt F) f LS) ∗ (∃ d, owns (c : Thread nD τ) arg12 fullShare d) ∗ (∃ d, owns (c : Thread nD τ) arg13 fullShare d)) -∗ K ⟨⟩))
          ⊢ wp frame (wpE (defs₀ (F := F)) Variants.none c none) E (cc0_q4k_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_q4k_linear_eq_skeleton]; unfold cc0_q4k_linear_skel
    simp only [k0_part77_eq_skeleton, k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    isplitl [HS0]
    · iexists _, _; isplitr; swap; · iexact HS0
      ipureintro; rfl
    isplitl [HS1]
    · iexists _; iexact HS1
    isplitl [HS2]
    · iexists _, _; isplitr; swap; · iexact HS2
      ipureintro; rfl
    iexists _, _; isplitr; swap; · iexact HS3
    ipureintro; rfl

end Cert.KernelIdeal.Hand

end
-- ==== Proof.Vocabulary.lean ====
module

public import proofs.«01_k».proof.Proof.Points

/-!
The block of work of one grid point, as functions of the blocks it loads.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The scale scratch -/

/-- One half block of expanded sub-block codes times its super-block scales. `u` is the constant the scales are
    multiplied by. -/
def scaleTile (u : BitVec 32) (v : Vec F S512x128 .i8) (d : Vec F S1x16x4x128 .f16) : FVec F S64x8x128 .f32 :=
  shapeCast S64x8x128
    (mulf
      (shapeCast S16x4x8x128
        (sitofp .f32 (extui 32 (bitcast S512x128 8
          (transpose S128x128 [1, 0] (bitcast S128x128 32 v bitcasts_S512x128_w8_S128x128_w32) transposes_S128x128_p1_0_S128x128)
          bitcasts_S128x128_w32_S512x128_w8) natLt_8_32) : FVec F S512x128 .f32)
        shapeCasts_S512x128_S16x4x8x128)
      (broadcastTo S16x4x8x128
        (shapeCast S16x1x8x128
          (concatenate S16x8x128 1
            [⟨S16x4x128, mulf (extf .f32 (shapeCast S16x4x128 d shapeCasts_S1x16x4x128_S16x4x128) bitsLt_f16_f32)
                (broadcast S16x4x128 (Scalar.ofBits .f32 u))⟩,
             ⟨S16x4x128, mulf (extf .f32 (shapeCast S16x4x128 d shapeCasts_S1x16x4x128_S16x4x128) bitsLt_f16_f32)
                (broadcast S16x4x128 (Scalar.ofBits .f32 u))⟩]
            concatenates_S16x4x128_S16x4x128_S16x8x128_d1)
          shapeCasts_S16x8x128_S16x1x8x128)
        broadcasts_S16x1x8x128_S16x4x8x128))
    shapeCasts_S16x4x8x128_S64x8x128

theorem inb_code (h : Fin 2) : ∀ a, (![512 * h.1, 0] : Fin 2 → ℕ) a + S512x128.size a ≤ S1024x128.size a := by
  intro a; have := h.2; fin_cases a
  · show 512 * h.1 + 512 ≤ 1024; omega
  · show 0 + 128 ≤ 128; omega

theorem inb_d (h : Fin 2) : ∀ a, (![h.1, 0, 0, 0] : Fin 4 → ℕ) a + S1x16x4x128.size a ≤ S2x16x4x128.size a := by
  intro a; have := h.2; fin_cases a
  · show h.1 + 1 ≤ 2; omega
  · show 0 + 16 ≤ 16; omega
  · show 0 + 4 ≤ 4; omega
  · show 0 + 128 ≤ 128; omega

theorem inb_scr (h half e : Fin 2) :
    ∀ a, (![h.1, half.1, 0, 4 * e.1, 0] : Fin 5 → ℕ) a + S1x1x64x4x128.size a ≤ S2x2x64x8x128.size a := by
  intro a; have := h.2; have := half.2; have := e.2; fin_cases a
  · show h.1 + 1 ≤ 2; omega
  · show half.1 + 1 ≤ 2; omega
  · show 0 + 64 ≤ 64; omega
  · show 4 * e.1 + 4 ≤ 8; omega
  · show 0 + 128 ≤ 128; omega

/-- The scale tile of half block `h`. -/
def tileOf (u : BitVec 32) (x : Vec F S1024x128 .i8) (d : Vec F S2x16x4x128 .f16) (h : Fin 2) : FVec F S64x8x128 .f32 :=
  scaleTile u (View.ld (Val := Elt F) (e' := .i8) x (Rect.unit ![512 * h.1, 0] S512x128.size (inb_code h)))
    (View.ld (Val := Elt F) (e' := .f16) d (Rect.unit ![h.1, 0, 0, 0] S1x16x4x128.size (inb_d h)))

/-- The rows of a scale tile which belong to the low or to the high nibbles. -/
def tileHalf (t : FVec F S64x8x128 .f32) : Fin 2 → Vec F S1x1x64x4x128 .f32
  | 0 => shapeCast S1x1x64x4x128 (extractStridedSlice S64x4x128 ![0, 0, 0] t slices_S64x8x128_o0_0_0_S64x4x128)
      shapeCasts_S64x4x128_S1x1x64x4x128
  | 1 => shapeCast S1x1x64x4x128 (extractStridedSlice S64x4x128 ![0, 4, 0] t slices_S64x8x128_o0_4_0_S64x4x128)
      shapeCasts_S64x4x128_S1x1x64x4x128

/-- One store into the scale scratch. -/
def scrPiece (u : BitVec 32) (x : Vec F S1024x128 .i8) (d : Vec F S2x16x4x128 .f16) (h half e : Fin 2) :
    View.Piece (Elt F) S2x2x64x8x128 .f32 :=
  ⟨Rect.unit ![h.1, half.1, 0, 4 * e.1, 0] S1x1x64x4x128.size (inb_scr h half e), tileHalf (tileOf u x d h) half⟩

/-- What the stores leave in the scale scratch. -/
def scratch (u : BitVec 32) (x : Vec F S1024x128 .i8) (d : Vec F S2x16x4x128 .f16) : Vec F S2x2x64x8x128 .f32 :=
  View.canon [scrPiece u x d 1 1 1, scrPiece u x d 1 1 0, scrPiece u x d 1 0 1, scrPiece u x d 1 0 0,
    scrPiece u x d 0 1 1, scrPiece u x d 0 1 0, scrPiece u x d 0 0 1, scrPiece u x d 0 0 0]

/-! ## One chunk of the contraction -/

theorem inb_q (h : Fin 2) (c : Fin 16) :
    ∀ a, (![512 * h.1, 128 * c.1] : Fin 2 → ℕ) a + S512x128.size a ≤ S1024x2048.size a := by
  intro a; have := h.2; have := c.2; fin_cases a
  · show 512 * h.1 + 512 ≤ 1024; omega
  · show 128 * c.1 + 128 ≤ 2048; omega

theorem inb_s (h half : Fin 2) (c : Fin 16) :
    ∀ a, (![h.1, half.1, 4 * c.1, 0, 0] : Fin 5 → ℕ) a + S1x1x4x8x128.size a ≤ S2x2x64x8x128.size a := by
  intro a; have := h.2; have := half.2; have := c.2; fin_cases a
  · show h.1 + 1 ≤ 2; omega
  · show half.1 + 1 ≤ 2; omega
  · show 4 * c.1 + 4 ≤ 64; omega
  · show 0 + 8 ≤ 8; omega
  · show 0 + 128 ≤ 128; omega

theorem inb_l (half : Fin 2) (c : Fin 16) :
    ∀ a, (![half.1, 0, 512 * c.1] : Fin 3 → ℕ) a + S1x32x512.size a ≤ S2x32x8192.size a := by
  intro a; have := half.2; have := c.2; fin_cases a
  · show half.1 + 1 ≤ 2; omega
  · show 0 + 32 ≤ 32; omega
  · show 512 * c.1 + 512 ≤ 8192; omega

/-- The code words of a tile, transposed. -/
def words (q : Vec F S512x128 .i8) : IVec S128x128 32 :=
  transpose S128x128 [1, 0] (bitcast S128x128 32 q bitcasts_S512x128_w8_S128x128_w32) transposes_S128x128_p1_0_S128x128

/-- The low or the high nibble of every byte of the words. -/
def nibbles (v : IVec S128x128 32) : Fin 2 → IVec S128x128 32
  | 0 => andi v (broadcast S128x128 252645135#32)
  | 1 => andi (shrui v (broadcast S128x128 4#32)) (broadcast S128x128 252645135#32)

/-- Nibbles read as fp8 numbers, times their scales, minus their offsets. -/
def weights (v : IVec S128x128 32) (s o : Vec F S1x1x4x8x128 .f32) : FVec F S512x128 .bf16 :=
  truncf .bf16
    (shapeCast S512x128
      (subf
        (mulf
          (shapeCast S4x16x8x128
            (extf .f32 (bitcastToFloat .fp8e4m3 (bitcast S512x128 8 v bitcasts_S128x128_w32_S512x128_w8) : FVec F S512x128 .fp8e4m3)
              bitsLt_fp8e4m3_f32)
            shapeCasts_S512x128_S4x16x8x128)
          (broadcastTo S4x16x8x128
            (shapeCast S4x1x8x128 (shapeCast S4x8x128 s shapeCasts_S1x1x4x8x128_S4x8x128) shapeCasts_S4x8x128_S4x1x8x128)
            broadcasts_S4x1x8x128_S4x16x8x128))
        (broadcastTo S4x16x8x128
          (shapeCast S4x1x8x128 (shapeCast S4x8x128 o shapeCasts_S1x1x4x8x128_S4x8x128) shapeCasts_S4x8x128_S4x1x8x128)
          broadcasts_S4x1x8x128_S4x16x8x128))
      shapeCasts_S4x16x8x128_S512x128)
    bitsLt_bf16_f32

/-- The weights of chunk `c` of half block `h`. -/
def wOf (x1 : Vec F S1024x2048 .i8) (S O : Vec F S2x2x64x8x128 .f32) (h half : Fin 2) (c : Fin 16) : FVec F S512x128 .bf16 :=
  weights (nibbles (words (F := F) (View.ld (Val := Elt F) (e' := .i8) x1 (Rect.unit ![512 * h.1, 128 * c.1] S512x128.size (inb_q h c)))) half)
    (View.ld (Val := Elt F) (e' := .f32) S (Rect.unit ![h.1, half.1, 4 * c.1, 0, 0] S1x1x4x8x128.size (inb_s h half c)))
    (View.ld (Val := Elt F) (e' := .f32) O (Rect.unit ![h.1, half.1, 4 * c.1, 0, 0] S1x1x4x8x128.size (inb_s h half c)))

/-- The product of chunk `c` for one half of the nibbles. -/
def prod (x1 : Vec F S1024x2048 .i8) (S O : Vec F S2x2x64x8x128 .f32) (lh : Vec F S2x32x8192 .bf16) (half : Fin 2)
    (c : Fin 16) : FVec F S32x256 .f32 :=
  matmul dot_S32x512_S512x256_S32x256_1_0_0_1_n_n none
    (shapeCast S32x512 (View.ld (Val := Elt F) (e' := .bf16) lh (Rect.unit ![half.1, 0, 512 * c.1] S1x32x512.size (inb_l half c)) : Vec F S1x32x512 .bf16)
      shapeCasts_S1x32x512_S32x512)
    (concatenate S512x256 1 [⟨S512x128, wOf x1 S O 0 half c⟩, ⟨S512x128, wOf x1 S O 1 half c⟩]
      concatenates_S512x128_S512x128_S512x256_d1)
    (constant S32x256 .f32 0x00000000#32)

/-- The accumulator after the first `n` chunks. -/
def acc (x1 : Vec F S1024x2048 .i8) (S O : Vec F S2x2x64x8x128 .f32) (lh : Vec F S2x32x8192 .bf16) :
    (n : ℕ) → n ≤ 16 → FVec F S32x256 .f32
  | 0, _ => broadcast S32x256 (Scalar.ofBits .f32 0x00000000#32)
  | n + 1, h => addf (addf (acc x1 S O lh n (by omega)) (prod x1 S O lh 0 ⟨n, h⟩)) (prod x1 S O lh 1 ⟨n, h⟩)

/-- The block of the product one grid point writes. -/
def yBlock (x1 : Vec F S1024x2048 .i8) (x2 x3 : Vec F S2x16x4x128 .f16) (x4 x5 : Vec F S1024x128 .i8)
    (lh : Vec F S2x32x8192 .bf16) : Vec F S1x32x256 .bf16 :=
  shapeCast S1x32x256
    (truncf .bf16 (acc x1 (scratch 0x44000000#32 x4 x2) (scratch 0x3F800000#32 x5 x3) lh 16 (Nat.le_refl _)) bitsLt_bf16_f32)
    shapeCasts_S32x256_S1x32x256

end Cert.KernelIdeal.Hand

end
-- ==== Proof.Quantise.lean ====
module

public import proofs.«01_k».proof.Proof.Vocabulary

/-!
The quantiser and the spread left operand, as functions of the block of activations.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem inb_x (s : Fin 16) : ∀ a, (![0, 256 * s.1] : Fin 2 → ℕ) a + S8x256.size a ≤ S8x4096.size a := by
  intro a; have := s.2; fin_cases a
  · show 0 + 8 ≤ 8; omega
  · show 256 * s.1 + 256 ≤ 4096; omega

theorem inb_sc (s : Fin 16) : ∀ a, (![0, s.1] : Fin 2 → ℕ) a + S8x1.size a ≤ S8x16.size a := by
  intro a; have := s.2; fin_cases a
  · show 0 + 8 ≤ 8; omega
  · show s.1 + 1 ≤ 16; omega

theorem inb_xq (s : Fin 16) : ∀ a, (![8 * s.1, 0] : Fin 2 → ℕ) a + S8x256.size a ≤ S128x256.size a := by
  intro a; have := s.2; fin_cases a
  · show 8 * s.1 + 8 ≤ 128; omega
  · show 0 + 256 ≤ 256; omega

theorem inb_xq_all : ∀ a, (![0, 0] : Fin 2 → ℕ) a + S128x256.size a ≤ S128x256.size a := by
  intro a; fin_cases a
  · show 0 + 128 ≤ 128; omega
  · show 0 + 256 ≤ 256; omega

theorem inb_lhs (half : Fin 2) (s : Fin 16) :
    ∀ a, (![half.1, 0, 512 * s.1] : Fin 3 → ℕ) a + S1x32x512.size a ≤ S2x32x8192.size a := inb_l half s

/-- Super-block `s` of the activations. -/
def xTile (x0 : Vec F S8x4096 .bf16) (s : Fin 16) : Vec F S8x256 .bf16 :=
  View.ld (Val := Elt F) (e' := .bf16) x0 (Rect.unit ![0, 256 * s.1] S8x256.size (inb_x s))

/-- The stores into the window of codes, last first, for the first `n` super-blocks. -/
def codePieces (x0 : Vec F S8x4096 .bf16) : (n : ℕ) → n ≤ 16 → List (View.Piece (Elt F) S8x4096 .i8)
  | 0, _ => []
  | n + 1, h => ⟨Rect.unit ![0, 256 * (⟨n, h⟩ : Fin 16).1] S8x256.size (inb_x ⟨n, h⟩), k0_pay5 (F := F) (xTile x0 ⟨n, h⟩)⟩
      :: codePieces x0 n (by omega)

/-- The stores into the window of scales, last first, for the first `n` super-blocks. -/
def scalePieces (x0 : Vec F S8x4096 .bf16) : (n : ℕ) → n ≤ 16 → List (View.Piece (Elt F) S8x16 .f32)
  | 0, _ => []
  | n + 1, h => ⟨Rect.unit ![0, (⟨n, h⟩ : Fin 16).1] S8x1.size (inb_sc ⟨n, h⟩), k0_pay3 (F := F) (xTile x0 ⟨n, h⟩)⟩
      :: scalePieces x0 n (by omega)

/-- The stores into the scratch of dequantised activations, last first, for the first `n` super-blocks. -/
def xqPieces (x0 : Vec F S8x4096 .bf16) : (n : ℕ) → n ≤ 16 → List (View.Piece (Elt F) S128x256 .f32)
  | 0, _ => []
  | n + 1, h => ⟨Rect.unit ![8 * (⟨n, h⟩ : Fin 16).1, 0] S8x256.size (inb_xq ⟨n, h⟩), k0_pay6 (F := F) (xTile x0 ⟨n, h⟩)⟩
      :: xqPieces x0 n (by omega)

/-- The dequantised activations, read back from their scratch. -/
def xqAll (x0 : Vec F S8x4096 .bf16) : Vec F S128x256 .f32 :=
  View.ld (Val := Elt F) (e' := .f32) (View.canon (xqPieces x0 16 (Nat.le_refl _))) (Rect.unit ![0, 0] S128x256.size inb_xq_all)

/-- The position within a super-block of the low nibble's activation for a spread column. -/
def posOf : IVec S256x512 32 :=
  k0_pay102 (k0_pay98 k0_pay94 k0_pay95 k0_pay96) (k0_pay99 k0_pay94 k0_pay95 k0_pay96)
    (k0_pay100 k0_pay94 k0_pay95 k0_pay96) (k0_pay101 k0_pay94 k0_pay95 k0_pay96)

/-- The one-hot selection of the activations at an offset of `off` from those positions. -/
def sel (off : BitVec 32) : FVec F S256x512 .bf16 :=
  truncf .bf16
    (select (cmpi .eq (iota .tc S256x512 32 [0] iota_S256x512_d0_w32) (addi posOf (broadcast S256x512 off)))
      (broadcast S256x512 (Scalar.ofBits .f32 0x3F800000#32)) (broadcast S256x512 (Scalar.ofBits .f32 0x00000000#32)) : FVec F S256x512 .f32)
    bitsLt_bf16_f32

/-- The activations, each repeated for the four output rows of a word. -/
def rep (off : BitVec 32) (xq : Vec F S128x256 .f32) : FVec F S128x512 .f32 :=
  matmul dot_S128x256_S256x512_S128x512_1_0_0_1_n_n none (truncf .bf16 (xq : FVec F S128x256 .f32) bitsLt_bf16_f32) (sel off)
    (constant S128x512 .f32 0x00000000#32)

theorem slices_rep : ∀ s : Fin 16, S128x512.Slices ![8 * s.1, 0] S8x512 := by decide

/-- The rows of one super-block, kept only where the column belongs to output row `b` of its word. -/
def keepRow (r : FVec F S128x512 .f32) (s : Fin 16) (b : BitVec 32) : FVec F S8x512 .f32 :=
  select (cmpi .eq k0_pay103 (broadcast S8x512 b)) (extractStridedSlice S8x512 ![8 * s.1, 0] r (slices_rep s))
    (broadcast S8x512 (Scalar.ofBits .f32 0x00000000#32))

/-- One super-block of the spread left operand. -/
def lhsTile (r : FVec F S128x512 .f32) (s : Fin 16) : Vec F S1x32x512 .bf16 :=
  shapeCast S1x32x512
    (truncf .bf16
      (concatenate S32x512 0 [⟨S8x512, keepRow r s 0#32⟩, ⟨S8x512, keepRow r s 1#32⟩, ⟨S8x512, keepRow r s 2#32⟩,
        ⟨S8x512, keepRow r s 3#32⟩] concatenates_S8x512_S8x512_S8x512_S8x512_S32x512_d0)
      bitsLt_bf16_f32)
    shapeCasts_S32x512_S1x32x512

/-- The stores into the left operand, last first, over the first `n` super-blocks of one half, before which were `L`. -/
def lhsPieces (r : FVec F S128x512 .f32) (half : Fin 2) (L : List (View.Piece (Elt F) S2x32x8192 .bf16)) :
    (n : ℕ) → n ≤ 16 → List (View.Piece (Elt F) S2x32x8192 .bf16)
  | 0, _ => L
  | n + 1, h => ⟨Rect.unit ![half.1, 0, 512 * (⟨n, h⟩ : Fin 16).1] S1x32x512.size (inb_lhs half ⟨n, h⟩), lhsTile r ⟨n, h⟩⟩
      :: lhsPieces r half L n (by omega)

/-- All the stores into the left operand, last first. -/
def lhsAll (x0 : Vec F S8x4096 .bf16) : List (View.Piece (Elt F) S2x32x8192 .bf16) :=
  lhsPieces (rep 32#32 (xqAll x0)) 1 (lhsPieces (rep 0#32 (xqAll x0)) 0 [] 16 (Nat.le_refl _)) 16 (Nat.le_refl _)

/-- The left operand, spread over the four rows of a word. -/
def lhsOf (x0 : Vec F S8x4096 .bf16) : Vec F S2x32x8192 .bf16 := View.canon (lhsAll x0)

/-- The codes of the activations. -/
def codesOf (x0 : Vec F S8x4096 .bf16) : Vec F S8x4096 .i8 := View.canon (codePieces x0 16 (Nat.le_refl _))

/-- The scales of the activations. -/
def scalesOf (x0 : Vec F S8x4096 .bf16) : Vec F S8x16 .f32 := View.canon (scalePieces x0 16 (Nat.le_refl _))

end Cert.KernelIdeal.Hand

end
-- ==== Proof.PiecesFirst.lean ====
/-
  What the run at the first grid point stores, in the vocabulary of blocks.
-/
module

public import proofs.«01_k».proof.Proof.RunFirst
public import proofs.«01_k».proof.Proof.Quantise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA_codes (c : Dev nD) (i : grid0.Coords) (arg1 : Memref sig .tc .vmem S8x4096 .bf16) (harg1 : arg1.IsWhole) (arg2 : Memref sig .tc .vmem S1024x2048 .i8) (harg2 : arg2.IsWhole) (arg3 : Memref sig .tc .vmem S2x16x4x128 .f16) (harg3 : arg3.IsWhole) (arg4 : Memref sig .tc .vmem S2x16x4x128 .f16) (harg4 : arg4.IsWhole) (arg5 : Memref sig .tc .vmem S1024x128 .i8) (harg5 : arg5.IsWhole) (arg6 : Memref sig .tc .vmem S1024x128 .i8) (harg6 : arg6.IsWhole) (arg7 : Memref sig .tc .vmem S1x32x256 .bf16) (harg7 : arg7.IsWhole) (arg8 : Memref sig .tc .vmem S8x4096 .i8) (harg8 : arg8.IsWhole) (arg9 : Memref sig .tc .vmem S8x16 .f32) (harg9 : arg9.IsWhole) (arg10 : Memref sig .tc .vmem S128x256 .f32) (harg10 : arg10.IsWhole) (arg11 : Memref sig .tc .vmem S2x32x8192 .bf16) (harg11 : arg11.IsWhole) (arg12 : Memref sig .tc .vmem S2x2x64x8x128 .f32) (harg12 : arg12.IsWhole) (arg13 : Memref sig .tc .vmem S2x2x64x8x128 .f32) (harg13 : arg13.IsWhole) (hc0 : cond0_0 i) (x0 : Vec F S8x4096 .bf16) (x1 : Vec F S1024x2048 .i8) (x2 : Vec F S2x16x4x128 .f16) (x3 : Vec F S2x16x4x128 .f16) (x4 : Vec F S1024x128 .i8) (x5 : Vec F S1024x128 .i8) :
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.1 = codePieces x0 16 (Nat.le_refl _) := by
  unfold runA
  dsimp only
  sl_unfold_words
  simp only [View.readAt_eq_ld, harg1.read_unread, harg2.read_unread, harg3.read_unread, harg4.read_unread, harg5.read_unread, harg6.read_unread, View.readCov_eq_canon']
  rfl

set_option maxHeartbeats 1000000 in
theorem runA_scales (c : Dev nD) (i : grid0.Coords) (arg1 : Memref sig .tc .vmem S8x4096 .bf16) (harg1 : arg1.IsWhole) (arg2 : Memref sig .tc .vmem S1024x2048 .i8) (harg2 : arg2.IsWhole) (arg3 : Memref sig .tc .vmem S2x16x4x128 .f16) (harg3 : arg3.IsWhole) (arg4 : Memref sig .tc .vmem S2x16x4x128 .f16) (harg4 : arg4.IsWhole) (arg5 : Memref sig .tc .vmem S1024x128 .i8) (harg5 : arg5.IsWhole) (arg6 : Memref sig .tc .vmem S1024x128 .i8) (harg6 : arg6.IsWhole) (arg7 : Memref sig .tc .vmem S1x32x256 .bf16) (harg7 : arg7.IsWhole) (arg8 : Memref sig .tc .vmem S8x4096 .i8) (harg8 : arg8.IsWhole) (arg9 : Memref sig .tc .vmem S8x16 .f32) (harg9 : arg9.IsWhole) (arg10 : Memref sig .tc .vmem S128x256 .f32) (harg10 : arg10.IsWhole) (arg11 : Memref sig .tc .vmem S2x32x8192 .bf16) (harg11 : arg11.IsWhole) (arg12 : Memref sig .tc .vmem S2x2x64x8x128 .f32) (harg12 : arg12.IsWhole) (arg13 : Memref sig .tc .vmem S2x2x64x8x128 .f32) (harg13 : arg13.IsWhole) (hc0 : cond0_0 i) (x0 : Vec F S8x4096 .bf16) (x1 : Vec F S1024x2048 .i8) (x2 : Vec F S2x16x4x128 .f16) (x3 : Vec F S2x16x4x128 .f16) (x4 : Vec F S1024x128 .i8) (x5 : Vec F S1024x128 .i8) :
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.1 = scalePieces x0 16 (Nat.le_refl _) := by
  unfold runA
  dsimp only
  sl_unfold_words
  simp only [View.readAt_eq_ld, harg1.read_unread, harg2.read_unread, harg3.read_unread, harg4.read_unread, harg5.read_unread, harg6.read_unread, View.readCov_eq_canon']
  rfl

set_option maxHeartbeats 1000000 in
theorem runA_lhs (c : Dev nD) (i : grid0.Coords) (arg1 : Memref sig .tc .vmem S8x4096 .bf16) (harg1 : arg1.IsWhole) (arg2 : Memref sig .tc .vmem S1024x2048 .i8) (harg2 : arg2.IsWhole) (arg3 : Memref sig .tc .vmem S2x16x4x128 .f16) (harg3 : arg3.IsWhole) (arg4 : Memref sig .tc .vmem S2x16x4x128 .f16) (harg4 : arg4.IsWhole) (arg5 : Memref sig .tc .vmem S1024x128 .i8) (harg5 : arg5.IsWhole) (arg6 : Memref sig .tc .vmem S1024x128 .i8) (harg6 : arg6.IsWhole) (arg7 : Memref sig .tc .vmem S1x32x256 .bf16) (harg7 : arg7.IsWhole) (arg8 : Memref sig .tc .vmem S8x4096 .i8) (harg8 : arg8.IsWhole) (arg9 : Memref sig .tc .vmem S8x16 .f32) (harg9 : arg9.IsWhole) (arg10 : Memref sig .tc .vmem S128x256 .f32) (harg10 : arg10.IsWhole) (arg11 : Memref sig .tc .vmem S2x32x8192 .bf16) (harg11 : arg11.IsWhole) (arg12 : Memref sig .tc .vmem S2x2x64x8x128 .f32) (harg12 : arg12.IsWhole) (arg13 : Memref sig .tc .vmem S2x2x64x8x128 .f32) (harg13 : arg13.IsWhole) (hc0 : cond0_0 i) (x0 : Vec F S8x4096 .bf16) (x1 : Vec F S1024x2048 .i8) (x2 : Vec F S2x16x4x128 .f16) (x3 : Vec F S2x16x4x128 .f16) (x4 : Vec F S1024x128 .i8) (x5 : Vec F S1024x128 .i8) :
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.1 = lhsAll x0 := by
  unfold runA
  dsimp only
  sl_unfold_words
  simp only [View.readAt_eq_ld, harg1.read_unread, harg2.read_unread, harg3.read_unread, harg4.read_unread, harg5.read_unread, harg6.read_unread, View.readCov_eq_canon']
  rfl

set_option maxHeartbeats 1000000 in
theorem runA_y (c : Dev nD) (i : grid0.Coords) (arg1 : Memref sig .tc .vmem S8x4096 .bf16) (harg1 : arg1.IsWhole) (arg2 : Memref sig .tc .vmem S1024x2048 .i8) (harg2 : arg2.IsWhole) (arg3 : Memref sig .tc .vmem S2x16x4x128 .f16) (harg3 : arg3.IsWhole) (arg4 : Memref sig .tc .vmem S2x16x4x128 .f16) (harg4 : arg4.IsWhole) (arg5 : Memref sig .tc .vmem S1024x128 .i8) (harg5 : arg5.IsWhole) (arg6 : Memref sig .tc .vmem S1024x128 .i8) (harg6 : arg6.IsWhole) (arg7 : Memref sig .tc .vmem S1x32x256 .bf16) (harg7 : arg7.IsWhole) (arg8 : Memref sig .tc .vmem S8x4096 .i8) (harg8 : arg8.IsWhole) (arg9 : Memref sig .tc .vmem S8x16 .f32) (harg9 : arg9.IsWhole) (arg10 : Memref sig .tc .vmem S128x256 .f32) (harg10 : arg10.IsWhole) (arg11 : Memref sig .tc .vmem S2x32x8192 .bf16) (harg11 : arg11.IsWhole) (arg12 : Memref sig .tc .vmem S2x2x64x8x128 .f32) (harg12 : arg12.IsWhole) (arg13 : Memref sig .tc .vmem S2x2x64x8x128 .f32) (harg13 : arg13.IsWhole) (hc0 : cond0_0 i) (x0 : Vec F S8x4096 .bf16) (x1 : Vec F S1024x2048 .i8) (x2 : Vec F S2x16x4x128 .f16) (x3 : Vec F S2x16x4x128 .f16) (x4 : Vec F S1024x128 .i8) (x5 : Vec F S1024x128 .i8) :
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).1 = [⟨Rect.unit ![0, 0, 0] ![1, 32, 256] inb_S1x32x256_S1x32x256_0_0_0, yBlock x1 x2 x3 x4 x5 (lhsOf x0)⟩] := by
  unfold runA
  dsimp only
  sl_unfold_words
  simp only [View.readAt_eq_ld, harg1.read_unread, harg2.read_unread, harg3.read_unread, harg4.read_unread, harg5.read_unread, harg6.read_unread, View.readCov_eq_canon']
  rfl

end Cert.KernelIdeal.Hand

end
-- ==== Proof.RunLater.lean ====
/-
  The kernel body run at a grid point after the first.
-/
module

public import proofs.«01_k».proof.Proof.RunFirst

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 2400000 in
/-- At a later point: what the body leaves in the block of `y`, as the list of its stores' pieces, with the proof
    that the body run on whole memrefs, the inputs' and the expanded left factor's at their contents, ends with these,
    the codes and the scales as they were, and the pieces written. -/
def runB (c : Dev nD) (i : grid0.Coords) (arg1 : Memref sig .tc .vmem S8x4096 .bf16) (harg1 : arg1.IsWhole) (arg2 : Memref sig .tc .vmem S1024x2048 .i8) (harg2 : arg2.IsWhole) (arg3 : Memref sig .tc .vmem S2x16x4x128 .f16) (harg3 : arg3.IsWhole) (arg4 : Memref sig .tc .vmem S2x16x4x128 .f16) (harg4 : arg4.IsWhole) (arg5 : Memref sig .tc .vmem S1024x128 .i8) (harg5 : arg5.IsWhole) (arg6 : Memref sig .tc .vmem S1024x128 .i8) (harg6 : arg6.IsWhole) (arg7 : Memref sig .tc .vmem S1x32x256 .bf16) (harg7 : arg7.IsWhole) (arg8 : Memref sig .tc .vmem S8x4096 .i8) (harg8 : arg8.IsWhole) (arg9 : Memref sig .tc .vmem S8x16 .f32) (harg9 : arg9.IsWhole) (arg10 : Memref sig .tc .vmem S128x256 .f32) (harg10 : arg10.IsWhole) (arg11 : Memref sig .tc .vmem S2x32x8192 .bf16) (harg11 : arg11.IsWhole) (arg12 : Memref sig .tc .vmem S2x2x64x8x128 .f32) (harg12 : arg12.IsWhole) (arg13 : Memref sig .tc .vmem S2x2x64x8x128 .f32) (harg13 : arg13.IsWhole) (hc0 : ¬cond0_0 i)
    (x0 : Vec F S8x4096 .bf16) (x1 : Vec F S1024x2048 .i8) (x2 : Vec F S2x16x4x128 .f16) (x3 : Vec F S2x16x4x128 .f16) (x4 : Vec F S1024x128 .i8) (x5 : Vec F S1024x128 .i8) (xi7 : Vec F S8x4096 .i8) (xi8 : Vec F S8x16 .f32) (lh : Vec F S2x32x8192 .bf16) :
    { L6 : List (View.Piece (Elt F) S1x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ owns (c : Thread nD τ) arg11 fullShare lh ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ d, owns (c : Thread nD τ) arg10 fullShare d) ∗ owns (c : Thread nD τ) arg11 fullShare lh ∗ (∃ d, owns (c : Thread nD τ) arg12 fullShare d) ∗ (∃ d, owns (c : Thread nD τ) arg13 fullShare d)) -∗ K ⟨⟩))
          ⊢ wp frame (wpE (defs₀ (F := F)) Variants.none c none) E (cc0_q4k_linear i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_q4k_linear_eq_skeleton]; unfold cc0_q4k_linear_skel
    simp only [k0_part77_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _, _; isplitr; swap; · iexact HS0
      ipureintro; rfl
    isplitl [HS1]
    · iexists _; isplitr; · ipureintro; exact harg11.read_unread _
      iexact HS1
    isplitl [HS2]
    · iexists _, _; isplitr; swap; · iexact HS2
      ipureintro; rfl
    iexists _, _; isplitr; swap; · iexact HS3
    ipureintro; rfl

end Cert.KernelIdeal.Hand

end
-- ==== Proof.PiecesLater.lean ====
/-
  What the run at a later grid point stores, in the vocabulary of blocks.
-/
module

public import proofs.«01_k».proof.Proof.RunLater
public import proofs.«01_k».proof.Proof.Quantise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runB_val (c : Dev nD) (i : grid0.Coords) (arg1 : Memref sig .tc .vmem S8x4096 .bf16) (harg1 : arg1.IsWhole) (arg2 : Memref sig .tc .vmem S1024x2048 .i8) (harg2 : arg2.IsWhole) (arg3 : Memref sig .tc .vmem S2x16x4x128 .f16) (harg3 : arg3.IsWhole) (arg4 : Memref sig .tc .vmem S2x16x4x128 .f16) (harg4 : arg4.IsWhole) (arg5 : Memref sig .tc .vmem S1024x128 .i8) (harg5 : arg5.IsWhole) (arg6 : Memref sig .tc .vmem S1024x128 .i8) (harg6 : arg6.IsWhole) (arg7 : Memref sig .tc .vmem S1x32x256 .bf16) (harg7 : arg7.IsWhole) (arg8 : Memref sig .tc .vmem S8x4096 .i8) (harg8 : arg8.IsWhole) (arg9 : Memref sig .tc .vmem S8x16 .f32) (harg9 : arg9.IsWhole) (arg10 : Memref sig .tc .vmem S128x256 .f32) (harg10 : arg10.IsWhole) (arg11 : Memref sig .tc .vmem S2x32x8192 .bf16) (harg11 : arg11.IsWhole) (arg12 : Memref sig .tc .vmem S2x2x64x8x128 .f32) (harg12 : arg12.IsWhole) (arg13 : Memref sig .tc .vmem S2x2x64x8x128 .f32) (harg13 : arg13.IsWhole) (hc0 : ¬cond0_0 i) (x0 : Vec F S8x4096 .bf16) (x1 : Vec F S1024x2048 .i8) (x2 : Vec F S2x16x4x128 .f16) (x3 : Vec F S2x16x4x128 .f16) (x4 : Vec F S1024x128 .i8) (x5 : Vec F S1024x128 .i8) (xi7 : Vec F S8x4096 .i8) (xi8 : Vec F S8x16 .f32) (lh : Vec F S2x32x8192 .bf16) : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xi7 xi8 lh).1 = [⟨Rect.unit ![0, 0, 0] ![1, 32, 256] inb_S1x32x256_S1x32x256_0_0_0, yBlock x1 x2 x3 x4 x5 lh⟩] := by
  unfold runB
  dsimp only
  sl_unfold_words
  simp only [View.readAt_eq_ld, harg2.read_unread, harg3.read_unread, harg4.read_unread, harg5.read_unread, harg6.read_unread, harg11.read_unread, View.readCov_eq_canon']
  rfl

end Cert.KernelIdeal.Hand

end
-- ==== Proof.Covers.lean ====
module

public import proofs.«01_k».proof.Proof.Quantise

/-!
The stores of the quantiser fill their buffers.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A list built by adding a piece per super-block holds the piece of each super-block below its length. -/
theorem mem_of_steps {α : Type} (L : (n : ℕ) → n ≤ 16 → List α) (p : Fin 16 → α)
    (hs : ∀ n h, L (n + 1) h = p ⟨n, h⟩ :: L n (by omega)) (s : Fin 16) : ∀ n (h : n ≤ 16), s.1 < n → p s ∈ L n h
  | 0, _, hn => absurd hn (Nat.not_lt_zero _)
  | n + 1, h, hn => by
    rw [hs]
    by_cases e : s.1 = n
    · have : s = ⟨n, h⟩ := Fin.ext e
      subst this; exact List.mem_cons_self
    · exact List.mem_cons_of_mem _ (mem_of_steps L p hs s n (by omega) (by omega))

/-- It holds nothing else but what was there before. -/
theorem of_mem_steps {α : Type} (L : (n : ℕ) → n ≤ 16 → List α) (p : Fin 16 → α)
    (hs : ∀ n h, L (n + 1) h = p ⟨n, h⟩ :: L n (by omega)) (q : α) :
    ∀ n (h : n ≤ 16), q ∈ L n h → (∃ s, q = p s) ∨ q ∈ L 0 (Nat.zero_le _)
  | 0, _, hq => .inr hq
  | n + 1, h, hq => by
    rw [hs] at hq
    rcases List.mem_cons.mp hq with e | hq
    · exact .inl ⟨_, e⟩
    · exact of_mem_steps L p hs q n (by omega) hq

/-- It keeps what was there before. -/
theorem mem_steps_of_zero {α : Type} (L : (n : ℕ) → n ≤ 16 → List α) (p : Fin 16 → α)
    (hs : ∀ n h, L (n + 1) h = p ⟨n, h⟩ :: L n (by omega)) (q : α) (hq : q ∈ L 0 (Nat.zero_le _)) :
    ∀ n (h : n ≤ 16), q ∈ L n h
  | 0, _ => hq
  | n + 1, h => by rw [hs]; exact List.mem_cons_of_mem _ (mem_steps_of_zero L p hs q hq n (by omega))

/-- The store of codes of super-block `s`. -/
def codePiece (x0 : Vec F S8x4096 .bf16) (s : Fin 16) : View.Piece (Elt F) S8x4096 .i8 :=
  ⟨Rect.unit ![0, 256 * s.1] S8x256.size (inb_x s), k0_pay5 (F := F) (xTile x0 s)⟩

/-- The store of scales of super-block `s`. -/
def scalePiece (x0 : Vec F S8x4096 .bf16) (s : Fin 16) : View.Piece (Elt F) S8x16 .f32 :=
  ⟨Rect.unit ![0, s.1] S8x1.size (inb_sc s), k0_pay3 (F := F) (xTile x0 s)⟩

/-- The store of dequantised activations of super-block `s`. -/
def xqPiece (x0 : Vec F S8x4096 .bf16) (s : Fin 16) : View.Piece (Elt F) S128x256 .f32 :=
  ⟨Rect.unit ![8 * s.1, 0] S8x256.size (inb_xq s), k0_pay6 (F := F) (xTile x0 s)⟩

/-- The store of the spread left operand of one half and super-block `s`. -/
def lhsPiece (r : FVec F S128x512 .f32) (half : Fin 2) (s : Fin 16) : View.Piece (Elt F) S2x32x8192 .bf16 :=
  ⟨Rect.unit ![half.1, 0, 512 * s.1] S1x32x512.size (inb_lhs half s), lhsTile r s⟩

theorem mem_codePieces (x0 : Vec F S8x4096 .bf16) (s : Fin 16) : codePiece x0 s ∈ codePieces x0 16 (Nat.le_refl _) :=
  mem_of_steps (codePieces x0) (codePiece x0) (fun _ _ => rfl) s 16 _ s.2

theorem mem_scalePieces (x0 : Vec F S8x4096 .bf16) (s : Fin 16) : scalePiece x0 s ∈ scalePieces x0 16 (Nat.le_refl _) :=
  mem_of_steps (scalePieces x0) (scalePiece x0) (fun _ _ => rfl) s 16 _ s.2

theorem mem_xqPieces (x0 : Vec F S8x4096 .bf16) (s : Fin 16) : xqPiece x0 s ∈ xqPieces x0 16 (Nat.le_refl _) :=
  mem_of_steps (xqPieces x0) (xqPiece x0) (fun _ _ => rfl) s 16 _ s.2

/-- The selection offset of each half. -/
def halfOff : Fin 2 → BitVec 32
  | 0 => 0#32
  | 1 => 32#32

theorem mem_lhsAll (x0 : Vec F S8x4096 .bf16) (half : Fin 2) (s : Fin 16) :
    lhsPiece (rep (halfOff half) (xqAll x0)) half s ∈ lhsAll x0 := by
  fin_cases half
  · exact mem_steps_of_zero (lhsPieces (rep 32#32 (xqAll x0)) 1 _) (lhsPiece (rep 32#32 (xqAll x0)) 1) (fun _ _ => rfl) _
      (mem_of_steps (lhsPieces (rep 0#32 (xqAll x0)) 0 []) (lhsPiece (rep 0#32 (xqAll x0)) 0) (fun _ _ => rfl) s 16 (Nat.le_refl _) s.2) 16 _
  · exact mem_of_steps (lhsPieces (rep 32#32 (xqAll x0)) 1 _) (lhsPiece (rep 32#32 (xqAll x0)) 1) (fun _ _ => rfl) s 16 _ s.2

theorem of_mem_codePieces (x0 : Vec F S8x4096 .bf16) (p) (hp : p ∈ codePieces x0 16 (Nat.le_refl _)) : ∃ s, p = codePiece x0 s :=
  (of_mem_steps (codePieces x0) (codePiece x0) (fun _ _ => rfl) p 16 _ hp).resolve_right List.not_mem_nil

theorem of_mem_scalePieces (x0 : Vec F S8x4096 .bf16) (p) (hp : p ∈ scalePieces x0 16 (Nat.le_refl _)) : ∃ s, p = scalePiece x0 s :=
  (of_mem_steps (scalePieces x0) (scalePiece x0) (fun _ _ => rfl) p 16 _ hp).resolve_right List.not_mem_nil

theorem of_mem_xqPieces (x0 : Vec F S8x4096 .bf16) (p) (hp : p ∈ xqPieces x0 16 (Nat.le_refl _)) : ∃ s, p = xqPiece x0 s :=
  (of_mem_steps (xqPieces x0) (xqPiece x0) (fun _ _ => rfl) p 16 _ hp).resolve_right List.not_mem_nil

theorem of_mem_lhsAll (x0 : Vec F S8x4096 .bf16) (p) (hp : p ∈ lhsAll x0) :
    ∃ half s, p = lhsPiece (rep (halfOff half) (xqAll x0)) half s := by
  rcases of_mem_steps (lhsPieces (rep 32#32 (xqAll x0)) 1 _) (lhsPiece (rep 32#32 (xqAll x0)) 1) (fun _ _ => rfl) p 16 _ hp with ⟨s, e⟩ | h
  · exact ⟨1, s, e⟩
  · rcases of_mem_steps (lhsPieces (rep 0#32 (xqAll x0)) 0 []) (lhsPiece (rep 0#32 (xqAll x0)) 0) (fun _ _ => rfl) p 16 _ h with ⟨s, e⟩ | h
    · exact ⟨0, s, e⟩
    · exact absurd h List.not_mem_nil

theorem cover_codes (x0 : Vec F S8x4096 .bf16) (y : S8x4096.Idx) : ∃ p ∈ codePieces x0 16 (Nat.le_refl _), y ∈ p.1.set := by
  have h0 : (y 0).val < 8 := (y 0).isLt
  have h1 : (y 1).val < 4096 := (y 1).isLt
  refine ⟨_, mem_codePieces x0 ⟨(y 1).val / 256, by omega⟩, (Rect.mem_set_unit (inb := inb_x _)).mpr fun a => ?_⟩
  fin_cases a
  · show 0 ≤ (y 0).val ∧ (y 0).val < 0 + 8; omega
  · show 256 * ((y 1).val / 256) ≤ (y 1).val ∧ (y 1).val < 256 * ((y 1).val / 256) + 256; omega

theorem cover_scales (x0 : Vec F S8x4096 .bf16) (y : S8x16.Idx) : ∃ p ∈ scalePieces x0 16 (Nat.le_refl _), y ∈ p.1.set := by
  have h0 : (y 0).val < 8 := (y 0).isLt
  have h1 : (y 1).val < 16 := (y 1).isLt
  refine ⟨_, mem_scalePieces x0 ⟨(y 1).val, by omega⟩, (Rect.mem_set_unit (inb := inb_sc _)).mpr fun a => ?_⟩
  fin_cases a
  · show 0 ≤ (y 0).val ∧ (y 0).val < 0 + 8; omega
  · show (y 1).val ≤ (y 1).val ∧ (y 1).val < (y 1).val + 1; omega

theorem cover_xq (x0 : Vec F S8x4096 .bf16) (y : S128x256.Idx) : ∃ p ∈ xqPieces x0 16 (Nat.le_refl _), y ∈ p.1.set := by
  have h0 : (y 0).val < 128 := (y 0).isLt
  have h1 : (y 1).val < 256 := (y 1).isLt
  refine ⟨_, mem_xqPieces x0 ⟨(y 0).val / 8, by omega⟩, (Rect.mem_set_unit (inb := inb_xq _)).mpr fun a => ?_⟩
  fin_cases a
  · show 8 * ((y 0).val / 8) ≤ (y 0).val ∧ (y 0).val < 8 * ((y 0).val / 8) + 8; omega
  · show 0 ≤ (y 1).val ∧ (y 1).val < 0 + 256; omega

theorem cover_lhs (x0 : Vec F S8x4096 .bf16) (y : S2x32x8192.Idx) : ∃ p ∈ lhsAll x0, y ∈ p.1.set := by
  have h0 : (y 0).val < 2 := (y 0).isLt
  have h1 : (y 1).val < 32 := (y 1).isLt
  have h2 : (y 2).val < 8192 := (y 2).isLt
  refine ⟨_, mem_lhsAll x0 ⟨(y 0).val, h0⟩ ⟨(y 2).val / 512, by omega⟩, (Rect.mem_set_unit (inb := inb_lhs _ _)).mpr fun a => ?_⟩
  fin_cases a
  · show (y 0).val ≤ (y 0).val ∧ (y 0).val < (y 0).val + 1; omega
  · show 0 ≤ (y 1).val ∧ (y 1).val < 0 + 32; omega
  · show 512 * ((y 2).val / 512) ≤ (y 2).val ∧ (y 2).val < 512 * ((y 2).val / 512) + 512; omega

/-- One store through a block fills it. -/
theorem cover_block (w : Vec F S1x32x256 .bf16) (y : S1x32x256.Idx) :
    ∃ p ∈ [(⟨Rect.unit ![0, 0, 0] ![1, 32, 256] inb_S1x32x256_S1x32x256_0_0_0, w⟩ : View.Piece (Elt F) S1x32x256 .bf16)], y ∈ p.1.set := by
  have h0 : (y 0).val < 1 := (y 0).isLt
  have h1 : (y 1).val < 32 := (y 1).isLt
  have h2 : (y 2).val < 256 := (y 2).isLt
  refine ⟨_, List.mem_cons_self, (Rect.mem_set_unit (inb := inb_S1x32x256_S1x32x256_0_0_0)).mpr fun a => ?_⟩
  fin_cases a
  · show 0 ≤ (y 0).val ∧ (y 0).val < 0 + 1; omega
  · show 0 ≤ (y 1).val ∧ (y 1).val < 0 + 32; omega
  · show 0 ≤ (y 2).val ∧ (y 2).val < 0 + 256; omega

theorem canon_block (w : Vec F S1x32x256 .bf16) :
    View.canon [(⟨Rect.unit ![0, 0, 0] ![1, 32, 256] inb_S1x32x256_S1x32x256_0_0_0, w⟩ : View.Piece (Elt F) S1x32x256 .bf16)] = w :=
  View.canon_unit_zero (S := S1x32x256) (by funext a; fin_cases a <;> rfl) _ w

end Cert.KernelIdeal.Hand

end
-- ==== Proof.Data.lean ====
/-
  The run of the kernel with what it leaves in its arrays: the pipeline's proof data, the body at each grid point,
  the launch, and the frame.
-/
module

public import proofs.«01_k».proof.Proof.PiecesFirst
public import proofs.«01_k».proof.Proof.PiecesLater
public import proofs.«01_k».proof.Proof.Covers
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
def t0 : Fin cfg0.N := ⟨0, by rw [show cfg0.N = 14 from N_0]; decide⟩

/-- The block of activations, which is the same at every point. -/
def xBlk (c : Dev nD) : Vec F S8x4096 .bf16 := iblk m c 0 t0

/-- The block of the product left at point `t`. -/
def yBlk (c : Dev nD) (t : Fin cfg0.N) : Vec F S1x32x256 .bf16 :=
  yBlock (iblk m c 1 t) (iblk m c 2 t) (iblk m c 3 t) (iblk m c 4 t) (iblk m c 5 t) (lhsOf (xBlk m c))

/-- Between the points: after the first, the scratch of the left operand holds the spread activations. -/
def inv (c : Dev nD) (k : Fin (cfg0.N + 1)) : sProp 𝕄 :=
  if k.val = 0 then Pipeline.ΦA spec0 c
  else iprop(iprop((∃ d, owns (c : Thread nD τ) scM0_0 fullShare d) ∗ owns (c : Thread nD τ) scM0_1 fullShare (lhsOf (xBlk m c)) ∗ (∃ d, owns (c : Thread nD τ) scM0_2 fullShare d) ∗ (∃ d, owns (c : Thread nD τ) scM0_3 fullShare d)) ∗ (∃ r, prngReg c r))

/-- The arrays as the region finds them; after the body at point `t` each input's buffer at its block, the product's
    at its block of the product, the codes' and scales' at the codes and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yBlk m c t
    | ⟨7, _⟩ => codesOf (xBlk m c)
    | ⟨8, _⟩ => scalesOf (xBlk m c)
  Φ := inv m c
  q _ := fullShare
  owed _ := 0

theorem inv_pos (c : Dev nD) (k : Fin (cfg0.N + 1)) (hk : k.val ≠ 0) : (dats m 0 c).Φ k
    = iprop(iprop((∃ d, owns (c : Thread nD τ) scM0_0 fullShare d) ∗ owns (c : Thread nD τ) scM0_1 fullShare (lhsOf (xBlk m c)) ∗ (∃ d, owns (c : Thread nD τ) scM0_2 fullShare d) ∗ (∃ d, owns (c : Thread nD τ) scM0_3 fullShare d)) ∗ (∃ r, prngReg c r)) :=
  (rfl : (dats m 0 c).Φ k = inv m c k).trans (if_neg hk)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yBlk m c t := by dsimp only [dats]
theorem after0_7 (c : Dev nD) (t : Fin cfg0.N) : (dats m 0 c).after 7 t = codesOf (xBlk m c) := by dsimp only [dats]
theorem after0_8 (c : Dev nD) (t : Fin cfg0.N) : (dats m 0 c).after 8 t = scalesOf (xBlk m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The write-backs of the two constant windows: at the last point only. -/
theorem flush0_7 : ∀ t : Fin cfg0.N, win0_7.flush t = true ↔ t.val % 14 = 13 :=
  (fun t => Pipeline.Window.flush_const win0_7 rfl (fun _ _ => rfl) (n := 14) (by decide) rfl t : ∀ t : Fin grid0.N, win0_7.flush t = true ↔ t.val % 14 = 13)
theorem flush0_8 : ∀ t : Fin cfg0.N, win0_8.flush t = true ↔ t.val % 14 = 13 :=
  (fun t => Pipeline.Window.flush_const win0_8 rfl (fun _ _ => rfl) (n := 14) (by decide) rfl t : ∀ t : Fin grid0.N, win0_8.flush t = true ↔ t.val % 14 = 13)

/-- The two constant windows are stored into at the first point, -/
theorem cond_first : k0_cond1 (grid0.coords t0) = 1#1 := (hcond0_0 t0).mpr rfl

/-- and at no other. -/
theorem cond_later (t : Fin cfg0.N) (ht : t.val ≠ 0) : (k0_cond1 (grid0.coords t) == 1#1) = false := by
  have hN : t.val < 14 := lt_of_lt_of_eq t.isLt (show cfg0.N = 14 from N_0)
  refine Bool.eq_false_iff.mpr fun e => ?_
  have := (hcond0_0 t).mp (eq_of_beq e)
  omega

theorem idle0_7_first : cfg0.idle 7 (grid0.coords t0) = false := by
  show (!(k0_cond1 (grid0.coords t0) == 1#1)) = false
  rw [cond_first]; rfl
theorem idle0_7_later (t : Fin cfg0.N) (ht : t.val ≠ 0) : cfg0.idle 7 (grid0.coords t) = true := by
  show (!(k0_cond1 (grid0.coords t) == 1#1)) = true
  rw [cond_later t ht]; rfl

theorem flush0_7_false (t : Fin cfg0.N) (ht : t.val ≠ 13) : (cfg0.win 7).flush t = false := by
  have hN : t.val < 14 := lt_of_lt_of_eq t.isLt (show cfg0.N = 14 from N_0)
  refine Bool.eq_false_iff.mpr fun e => ?_
  have := (flush0_7 t).mp e
  omega

theorem fresh0_7 : ∀ (n : ℕ) (h : n + 1 < cfg0.N), cfg0.fresh 7 (n + 1) = false
  | 0, h => by
    have hN : cfg0.N = 14 := N_0
    rw [Pipeline.Cfg.fresh_succ cfg0 7 0 (by omega), show (⟨0, by omega⟩ : Fin cfg0.N) = t0 from rfl, idle0_7_first, flush0_7_false t0 (by decide)]
    rfl
  | n + 1, h => by
    have hN : cfg0.N = 14 := N_0
    rw [Pipeline.Cfg.fresh_succ cfg0 7 (n + 1) (by omega), fresh0_7 n (by omega), flush0_7_false ⟨n + 1, by omega⟩ (by show n + 1 ≠ 13; omega), Bool.and_false, Bool.false_or]

/-- After the first point the buffer holds what the first point stored. -/
theorem before0_7 (c : Dev nD) (t : Fin cfg0.N) (ht : t.val ≠ 0) (d) : (dats m 0 c).before 7 t d = codesOf (xBlk m c) := by
  rw [Pipeline.Dat.before_out_traj (dats m 0 c) 7 rfl (fun _ _ => rfl)
    (fun t _ _ _ => by rw [after0_7, after0_7]) t.val t rfl d, after0_7]
  obtain ⟨n, hn⟩ := Nat.exists_eq_succ_of_ne_zero ht
  rw [hn, fresh0_7 n (by have := t.isLt; omega)]
  rfl

/-- A buffer left as found is left as the data says. -/
theorem keeps0_7 (c : Dev nD) (t : Fin cfg0.N) (ht : t.val ≠ 0) :
    owns (c : Thread nD τ) (ms0_7 t) fullShare (codesOf (xBlk m c)) ⊢ (dats m 0 c).leavesExact 7 t := by
  by_cases h : t.val = 13
  · unfold Dat.leavesExact
    rw [idle0_7_later t ht, show (cfg0.win 7).flush t = true from (flush0_7 t).mpr (by omega), after0_7]
  · rw [Pipeline.Dat.leavesExact_idle (dats m 0 c) 7 t (idle0_7_later t ht) (flush0_7_false t h)]
    simp only [before0_7 m c t ht]
    iintro H
    iexists (fun _ => Classical.arbitrary _)
    iexact H

theorem leaves0_7_first (c : Dev nD) :
    (dats m 0 c).leavesExact 7 t0 = owns (c : Thread nD τ) (ms0_7 t0) fullShare ((dats m 0 c).after 7 t0) := by
  unfold Dat.leavesExact; rw [idle0_7_first]

theorem idle0_8_first : cfg0.idle 8 (grid0.coords t0) = false := by
  show (!(k0_cond1 (grid0.coords t0) == 1#1)) = false
  rw [cond_first]; rfl
theorem idle0_8_later (t : Fin cfg0.N) (ht : t.val ≠ 0) : cfg0.idle 8 (grid0.coords t) = true := by
  show (!(k0_cond1 (grid0.coords t) == 1#1)) = true
  rw [cond_later t ht]; rfl

theorem flush0_8_false (t : Fin cfg0.N) (ht : t.val ≠ 13) : (cfg0.win 8).flush t = false := by
  have hN : t.val < 14 := lt_of_lt_of_eq t.isLt (show cfg0.N = 14 from N_0)
  refine Bool.eq_false_iff.mpr fun e => ?_
  have := (flush0_8 t).mp e
  omega

theorem fresh0_8 : ∀ (n : ℕ) (h : n + 1 < cfg0.N), cfg0.fresh 8 (n + 1) = false
  | 0, h => by
    have hN : cfg0.N = 14 := N_0
    rw [Pipeline.Cfg.fresh_succ cfg0 8 0 (by omega), show (⟨0, by omega⟩ : Fin cfg0.N) = t0 from rfl, idle0_8_first, flush0_8_false t0 (by decide)]
    rfl
  | n + 1, h => by
    have hN : cfg0.N = 14 := N_0
    rw [Pipeline.Cfg.fresh_succ cfg0 8 (n + 1) (by omega), fresh0_8 n (by omega), flush0_8_false ⟨n + 1, by omega⟩ (by show n + 1 ≠ 13; omega), Bool.and_false, Bool.false_or]

/-- After the first point the buffer holds what the first point stored. -/
theorem before0_8 (c : Dev nD) (t : Fin cfg0.N) (ht : t.val ≠ 0) (d) : (dats m 0 c).before 8 t d = scalesOf (xBlk m c) := by
  rw [Pipeline.Dat.before_out_traj (dats m 0 c) 8 rfl (fun _ _ => rfl)
    (fun t _ _ _ => by rw [after0_8, after0_8]) t.val t rfl d, after0_8]
  obtain ⟨n, hn⟩ := Nat.exists_eq_succ_of_ne_zero ht
  rw [hn, fresh0_8 n (by have := t.isLt; omega)]
  rfl

/-- A buffer left as found is left as the data says. -/
theorem keeps0_8 (c : Dev nD) (t : Fin cfg0.N) (ht : t.val ≠ 0) :
    owns (c : Thread nD τ) (ms0_8 t) fullShare (scalesOf (xBlk m c)) ⊢ (dats m 0 c).leavesExact 8 t := by
  by_cases h : t.val = 13
  · unfold Dat.leavesExact
    rw [idle0_8_later t ht, show (cfg0.win 8).flush t = true from (flush0_8 t).mpr (by omega), after0_8]
  · rw [Pipeline.Dat.leavesExact_idle (dats m 0 c) 8 t (idle0_8_later t ht) (flush0_8_false t h)]
    simp only [before0_8 m c t ht]
    iintro H
    iexists (fun _ => Classical.arbitrary _)
    iexact H

theorem leaves0_8_first (c : Dev nD) :
    (dats m 0 c).leavesExact 8 t0 = owns (c : Thread nD τ) (ms0_8 t0) fullShare ((dats m 0 c).after 8 t0) := by
  unfold Dat.leavesExact; rw [idle0_8_first]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) :
    (dats m 0 c).leavesExact 0 t = owns (c : Thread nD τ) (ms0_0 t) fullShare ((dats m 0 c).after 0 t) := by
  unfold Dat.leavesExact; rw [show cfg0.idle 0 (grid0.coords t) = false from rfl]
theorem leaves0_1 (c : Dev nD) (t : Fin cfg0.N) :
    (dats m 0 c).leavesExact 1 t = owns (c : Thread nD τ) (ms0_1 t) fullShare ((dats m 0 c).after 1 t) := by
  unfold Dat.leavesExact; rw [show cfg0.idle 1 (grid0.coords t) = false from rfl]
theorem leaves0_2 (c : Dev nD) (t : Fin cfg0.N) :
    (dats m 0 c).leavesExact 2 t = owns (c : Thread nD τ) (ms0_2 t) fullShare ((dats m 0 c).after 2 t) := by
  unfold Dat.leavesExact; rw [show cfg0.idle 2 (grid0.coords t) = false from rfl]
theorem leaves0_3 (c : Dev nD) (t : Fin cfg0.N) :
    (dats m 0 c).leavesExact 3 t = owns (c : Thread nD τ) (ms0_3 t) fullShare ((dats m 0 c).after 3 t) := by
  unfold Dat.leavesExact; rw [show cfg0.idle 3 (grid0.coords t) = false from rfl]
theorem leaves0_4 (c : Dev nD) (t : Fin cfg0.N) :
    (dats m 0 c).leavesExact 4 t = owns (c : Thread nD τ) (ms0_4 t) fullShare ((dats m 0 c).after 4 t) := by
  unfold Dat.leavesExact; rw [show cfg0.idle 4 (grid0.coords t) = false from rfl]
theorem leaves0_5 (c : Dev nD) (t : Fin cfg0.N) :
    (dats m 0 c).leavesExact 5 t = owns (c : Thread nD τ) (ms0_5 t) fullShare ((dats m 0 c).after 5 t) := by
  unfold Dat.leavesExact; rw [show cfg0.idle 5 (grid0.coords t) = false from rfl]
theorem leaves0_6 (c : Dev nD) (t : Fin cfg0.N) :
    (dats m 0 c).leavesExact 6 t = owns (c : Thread nD τ) (ms0_6 t) fullShare ((dats m 0 c).after 6 t) := by
  unfold Dat.leavesExact; rw [show cfg0.idle 6 (grid0.coords t) = false from rfl]

/-- What a buffer reads after a run's stores, which cover it. -/
theorem reads_of {κ : Kind} {sp : Space} {sh : Shape} {e : EltTy} {v : View sig κ sp sh e} {f : v.ty.Contents (Elt F)}
    {L L' : List (View.Piece (Elt F) sh e)} {w : sh.Idx → Elt F e} (h : L = L') (hc : ∀ y, ∃ p ∈ L', y ∈ p.1.set)
    (hw : View.canon L' = w) : View.read (Elt F) v (View.writes v (Elt F) f L) = w := by
  subst h
  exact (View.read_writes_eq_canon v f L hc).trans hw

set_option maxHeartbeats 2400000 in
theorem sound_first (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5]
  rw [show (dats m 0 c).owesAt () t0.succ = (dats m 0 c).owesAt () t0.castSucc from rfl,
    show (dats m 0 c).Φ t0.castSucc = Pipeline.ΦA spec0 c from (rfl : inv m c t0.castSucc = _).trans (if_pos rfl), PhiA0_eq,
    inv_pos m c t0.succ (Nat.succ_ne_zero _)]
  rw [leaves0_0, after0_0, leaves0_1, after0_1, leaves0_2, after0_2, leaves0_3, after0_3, leaves0_4, after0_4, leaves0_5, after0_5, leaves0_6, after0_6, leaves0_7_first, after0_7, leaves0_8_first, after0_8]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t0) _ _ _ _ _ _ _ _ _ _ _ _ _ _ _ _ _ _ _ _ _ _ _ _ _ _ ((hcond0_0 t0).mpr rfl) (iblk m c 0 t0) (iblk m c 1 t0) (iblk m c 2 t0) (iblk m c 3 t0) (iblk m c 4 t0) (iblk m c 5 t0)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, ⟨%f6, H6⟩, ⟨%f7, H7⟩, ⟨%f8, H8⟩, HS0, ⟨%fs, HS1⟩, HS2, HS3⟩
  isplitl [HS0 HS1 HS2 HS3 Hg]
  · isplitl [HS0 HS1 HS2 HS3]
    · isplitl [HS0]
      · iexact HS0
      isplitl [HS1]
      · unfold owns; iexists _; isplitr; swap
        · iexact HS1
        · ipureintro; exact reads_of (runA_lhs (F := F) _ _ _ _ _ _ _ _ _ _ _ _ _ _ _ _ _ _ _ _ _ _ _ _ _ _ _ _ _ _ _ _ _ _ _) (cover_lhs (iblk m c 0 t0)) rfl
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap
    · iexact H6
    · ipureintro; exact reads_of (runA_y (F := F) _ _ _ _ _ _ _ _ _ _ _ _ _ _ _ _ _ _ _ _ _ _ _ _ _ _ _ _ _ _ _ _ _ _ _) (cover_block _) (canon_block _)
  isplitl [H7]
  · unfold owns; iexists _; isplitr; swap
    · iexact H7
    · ipureintro; exact reads_of (runA_codes (F := F) _ _ _ _ _ _ _ _ _ _ _ _ _ _ _ _ _ _ _ _ _ _ _ _ _ _ _ _ _ _ _ _ _ _ _) (cover_codes (iblk m c 0 t0)) rfl
  · unfold owns; iexists _; isplitr; swap
    · iexact H8
    · ipureintro; exact reads_of (runA_scales (F := F) _ _ _ _ _ _ _ _ _ _ _ _ _ _ _ _ _ _ _ _ _ _ _ _ _ _ _ _ _ _ _ _ _ _ _) (cover_scales (iblk m c 0 t0)) rfl

set_option maxHeartbeats 2400000 in
theorem sound_later (c : Dev nD) (t : Fin cfg0.N) (h0 : t.val ≠ 0) :
    bodyPre m c t ⊢ wp frame (wpE (defs₀ (F := F)) Variants.none c none) Set.univ (bodyAt0 t) (fun _ => bodyPost m c t) := by
  have hN : t.val < 14 := lt_of_lt_of_eq t.isLt (show cfg0.N = 14 from N_0)
  unfold bodyPre bodyPost bodyAt0
  simp only [before0_0, before0_1, before0_2, before0_3, before0_4, before0_5, before0_7 m c t h0, before0_8 m c t h0]
  rw [show (dats m 0 c).owesAt () t.succ = (dats m 0 c).owesAt () t.castSucc from rfl,
    inv_pos m c t.castSucc h0,
    inv_pos m c t.succ (Nat.succ_ne_zero _)]
  rw [leaves0_0, after0_0, leaves0_1, after0_1, leaves0_2, after0_2, leaves0_3, after0_3, leaves0_4, after0_4, leaves0_5, after0_5, leaves0_6, after0_6]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) _ _ _ _ _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (iblk m c 5 t) (codesOf (xBlk m c)) (scalesOf (xBlk m c)) (lhsOf (xBlk m c))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, ⟨%f6, H6⟩, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap
    · iexact H6
    · ipureintro; exact reads_of (runB_val (F := F) _ _ _ _ _ _ _ _ _ _ _ _ _ _ _ _ _ _ _ _ _ _ _ _ _ _ _ _ _ _ _ _ _ _ _ _ _ _) (cover_block _) (canon_block _)
  isplitl [H7]; · iapply (keeps0_7 m c t h0); iexact H7
  iapply (keeps0_8 m c t h0); iexact H8

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t0 := Fin.ext h0
    exact sound_first m c
  · exact sound_later m c t h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_in (c : Dev nD) : Pipeline.ΦA spec0 c ⊢ (dats m 0 c).Φ 0 := by
  rw [show (dats m 0 c).Φ 0 = Pipeline.ΦA spec0 c from (rfl : inv m c 0 = _).trans (if_pos rfl)]

theorem inv_out (c : Dev nD) : (dats m 0 c).Φ (Fin.last cfg0.N) ⊢ Pipeline.ΦA spec0 c := by
  rw [inv_pos m c (Fin.last cfg0.N) (by
    show ¬ cfg0.N = 0
    rw [show cfg0.N = 14 from N_0]; decide), PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexact HS3
  iexact Hg

set_option backward.isDefEq.respectTransparency.types false in
set_option maxHeartbeats 800000 in
/-- Every fair execution ends with every array at what the proof data says and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- They do, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.KernelFrame.lean ====
/-
  The kernel as printed and its reading over the extended reals are one text, so a frame proved of the text at
  every reading of the floats is the frame of the kernel at its machine words.
-/
module

public import proofs.«01_k».proof.Defs
public import proofs.«01_k».proof.Proof.Gen.Kernel
public import proofs.«01_k».proof.Proof.Data

@[expose] public section

set_option maxRecDepth 100000

noncomputable section

namespace Cert.Kernel.Hand

open Idealize.ShloMosaic Idealize.SL.Sem

variable {F : FTy → Type} [FloatOps F]

/-- The two bodies are the same, line by line. -/
theorem body_eq : Cert.Kernel.cc0_q4k_linear (F := F) = Cert.KernelIdeal.cc0_q4k_linear (F := F) := rfl

theorem bodies_eq : Cert.Kernel.defs₀ (F := F) = Cert.KernelIdeal.defs₀ (F := F) := by
  funext pr ℓ a
  cases pr with
  | tc =>
    obtain rfl : ℓ = 0 := Subsingleton.elim (α := Fin 1) _ _
    obtain ⟨t, s⟩ := a
    show Cert.Kernel.cc0_q4k_linear (F := F) _ _ _ _ _ _ _ _ _ _ _ _ _ _ _ _ _ _ _ _ _ _ _ _ _ _ _ =
      Cert.KernelIdeal.cc0_q4k_linear (F := F) _ _ _ _ _ _ _ _ _ _ _ _ _ _ _ _ _ _ _ _ _ _ _ _ _ _ _
    rw [body_eq]
    rfl
  | scScalar _ => rfl
  | scVector _ _ => rfl

theorem defs_eq : Cert.Kernel.defs (F := F) = Cert.KernelIdeal.defs (F := F) :=
  congrArg (Pipeline.defs Cert.Kernel.pcfgs) bodies_eq

theorem main_eq : Cert.Kernel.main (F := F) = Cert.KernelIdeal.main (F := F) := rfl

/-- The kernel at its machine words runs, leaves its arguments unchanged and every semaphore counter at zero. -/
theorem frame : Cert.quiescent_Kernel := by
  intro m ρ _
  rw [defs_eq, main_eq]
  exact Cert.KernelIdeal.Hand.frame (F := Bits) m ρ

end Cert.Kernel.Hand

end
-- ==== Proof.ReferenceWiden.lean ====
/-
  The reference's widened scales are the scales themselves, over the extended reals.
-/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

open Idealize.ShloMosaic.StableHlo Idealize.SL.Sem

variable (m : (ℓ : Loc nD τ sig) → Buf (Elt Ideal) ℓ)

theorem index_at : ∀ t : Fin grid0.N, win0_0.index t = ![0, 0] ∧ win0_1.index t = ![0, 0]
    ∧ win0_2.index t = ![0, 0] ∧ win0_3.index t = ![0, 0] := by decide +kernel

/-- The widened scales are the scales: over the extended reals a change of format keeps the value. -/
theorem widened_d (c : Dev nD) : Cert.ReferenceIdeal.Value.reg_main_v0_0 m c = (m ((c.tc : Thread nD τ).loc main_arg2) : Vec Ideal S14336x16 .f16) := by
  unfold Cert.ReferenceIdeal.Value.reg_main_v0_0
  refine (Gen.dats m 0 c).arrAt_eq_of_covers 2 _ (by decide +kernel) fun t hf y => ?_
  have e := (index_at t).1
  have e' := (index_at t).2.2.1
  blk_simp
  rw [Gen.after0_2]
  frame_out
  revert y
  intro (y : S14336x16.Idx)
  obtain ⟨p, q, rfl⟩ : ∃ (p : Fin 14336) (q : Fin 16), y = ix2 p q := ⟨y 0, y 1, eq_ix2 y⟩
  show (iblk m c 0 t : Vec Ideal S14336x16 .f16) (ix2 p q) = _
  rw [← V_main_arg2 m c]
  blk_ext [iblk, e, e']

/-- And the widened minima are the minima: over the extended reals a change of format keeps the value. -/
theorem widened_dmin (c : Dev nD) : Cert.ReferenceIdeal.Value.reg_main_v0_1 m c = (m ((c.tc : Thread nD τ).loc main_arg3) : Vec Ideal S14336x16 .f16) := by
  unfold Cert.ReferenceIdeal.Value.reg_main_v0_1
  refine (Gen.dats m 0 c).arrAt_eq_of_covers 3 _ (by decide +kernel) fun t hf y => ?_
  have e := (index_at t).2.1
  have e' := (index_at t).2.2.2
  blk_simp
  rw [Gen.after0_3]
  frame_out
  revert y
  intro (y : S14336x16.Idx)
  obtain ⟨p, q, rfl⟩ : ∃ (p : Fin 14336) (q : Fin 16), y = ix2 p q := ⟨y 0, y 1, eq_ix2 y⟩
  show (iblk m c 1 t : Vec Ideal S14336x16 .f16) (ix2 p q) = _
  rw [← V_main_arg3 m c]
  blk_ext [iblk, e, e']

end Cert.ReferenceIdeal.Hand

end
-- ==== Proof.ReferenceRun.lean ====
/-
  The reference's run over the extended reals: its results as terms of the arguments.
-/
module

public import proofs.«01_k».proof.Proof.ReferenceWiden

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

open Idealize.ShloMosaic.StableHlo Idealize.SL.Sem

variable (m : (ℓ : Loc nD τ sig) → Buf (Elt Ideal) ℓ) (ρ : Dev nD → PrngReg)

/-- Every run of the reference ends with its three results at their terms of the arguments, and the arguments unchanged. -/
theorem run : θ_run defs (onTc (τ := τ) (main (F := Ideal))) ⟨m, fun _ => 0, ρ⟩ (fun r => ∀ c : Dev nD,
      r.2.mem ((c.tc : Thread nD τ).loc main_v88) = val_main_v88 (F := Ideal) (m ((c.tc : Thread nD τ).loc main_arg0))
        (m ((c.tc : Thread nD τ).loc main_arg1)) (m ((c.tc : Thread nD τ).loc main_arg4)) (m ((c.tc : Thread nD τ).loc main_arg5))
        (m ((c.tc : Thread nD τ).loc main_arg2)) (m ((c.tc : Thread nD τ).loc main_arg3))
      ∧ r.2.mem ((c.tc : Thread nD τ).loc main_v17) = val_main_v17 (F := Ideal) (m ((c.tc : Thread nD τ).loc main_arg0))
      ∧ r.2.mem ((c.tc : Thread nD τ).loc main_v9) = val_main_v9 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨h88, h17, h9, hargs⟩ := h c
    refine ⟨h88.trans ((val_main_v88_eq (Cert.ReferenceIdeal.Value.exitV m c)).trans ?_), h17.trans ((val_main_v17_eq (Cert.ReferenceIdeal.Value.exitV m c)).trans ?_),
      h9.trans ((val_main_v9_eq (Cert.ReferenceIdeal.Value.exitV m c)).trans ?_), hargs⟩
    · rw [Cert.ReferenceIdeal.Value.exit_main_arg0, Cert.ReferenceIdeal.Value.exit_main_arg1, Cert.ReferenceIdeal.Value.exit_main_arg4,
        Cert.ReferenceIdeal.Value.exit_main_arg5, Cert.ReferenceIdeal.Value.exit_main_v0_0, Cert.ReferenceIdeal.Value.exit_main_v0_1,
        widened_d, widened_dmin]
    · rw [Cert.ReferenceIdeal.Value.exit_main_arg0]
    · rw [Cert.ReferenceIdeal.Value.exit_main_arg0]) (Cert.ReferenceIdeal.Value.run m ρ)

end Cert.ReferenceIdeal.Hand

end
-- ==== Proof.BlocksAt.lean ====
/-
  The windows' blocks at an index, as reads of the arguments.
-/
module

public import proofs.«01_k».proof.Proof.Data
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.ShloMosaic.StableHlo

variable (m : (ℓ : Loc nD τ sig) → Buf (Elt Ideal) ℓ)

/-- Where each window's block stands at a grid point. -/
theorem index_at : ∀ t : Fin grid0.N, win0_0.index t = ![0, 0] ∧ win0_1.index t = ![t.val, 0] ∧ win0_2.index t = ![t.val, 0, 0, 0]
    ∧ win0_3.index t = ![t.val, 0, 0, 0] ∧ win0_4.index t = ![t.val, 0] ∧ win0_5.index t = ![t.val, 0]
    ∧ win0_6.index t = ![t.val, 0, 0] ∧ win0_7.index t = ![0, 0] ∧ win0_8.index t = ![0, 0] := by decide +kernel

theorem point_lt (t : Fin cfg0.N) : t.val < 14 := lt_of_lt_of_eq t.isLt (show cfg0.N = 14 from N_0)

theorem host_x (c : Dev nD) (r : Fin 8) (j : Fin 4096) :
    V m c main_v0 (ix2 r j) = m ((c.tc : Thread nD τ).loc main_arg0) (ix3 r (0 : Fin 1) j) := by
  show StableHlo.after [hostOps0].flatten (fun b => m (c, b)) _ _ = _
  simp only [hostOps0, List.flatten_cons, List.flatten_nil, List.append_nil]
  after_results_simp
  pointwise

theorem host_d (c : Dev nD) (h : Fin 28) (s : Fin 16) (b : Fin 4) (k : Fin 128) :
    V m c main_v2 (ix4 h s b k)
      = m ((c.tc : Thread nD τ).loc main_arg2) (ix2 (⟨512 * h.1 + 4 * k.1 + b.1, by have := h.2; have := k.2; have := b.2; omega⟩ : Fin 14336) s) := by
  show StableHlo.after [hostOps0].flatten (fun b => m (c, b)) _ _ = _
  simp only [hostOps0, List.flatten_cons, List.flatten_nil, List.append_nil]
  after_results_simp
  pointwise
  exact congrArg (fun o : Fin 14336 => m ((c.tc : Thread nD τ).loc main_arg2) (ix2 o s)) (Fin.ext (by dsimp only; omega))

theorem host_dmin (c : Dev nD) (h : Fin 28) (s : Fin 16) (b : Fin 4) (k : Fin 128) :
    V m c main_v4 (ix4 h s b k)
      = m ((c.tc : Thread nD τ).loc main_arg3) (ix2 (⟨512 * h.1 + 4 * k.1 + b.1, by have := h.2; have := k.2; have := b.2; omega⟩ : Fin 14336) s) := by
  show StableHlo.after [hostOps0].flatten (fun b => m (c, b)) _ _ = _
  simp only [hostOps0, List.flatten_cons, List.flatten_nil, List.append_nil]
  after_results_simp
  pointwise
  exact congrArg (fun o : Fin 14336 => m ((c.tc : Thread nD τ).loc main_arg3) (ix2 o s)) (Fin.ext (by dsimp only; omega))

theorem x_at (c : Dev nD) (t : Fin cfg0.N) (r : Fin 8) (j : Fin 4096) :
    (iblk m c 0 t : Vec Ideal S8x4096 .bf16) (ix2 r j) = m ((c.tc : Thread nD τ).loc main_arg0) (ix3 r (0 : Fin 1) j) := by
  have e := (index_at t).1
  rw [← host_x m c r j]
  blk_ext [iblk, e]

theorem qs_at (c : Dev nD) (t : Fin cfg0.N) (r : Fin 1024) (j : Fin 2048) :
    (iblk m c 1 t : Vec Ideal S1024x2048 .i8) (ix2 r j)
      = m ((c.tc : Thread nD τ).loc main_arg1) (ix2 (⟨1024 * t.val + r.1, by have := point_lt t; have := r.2; omega⟩ : Fin 14336) j) := by
  have e := (index_at t).2.1
  blk_point [iblk, e]

theorem sc_at (c : Dev nD) (t : Fin cfg0.N) (r : Fin 1024) (j : Fin 128) :
    (iblk m c 4 t : Vec Ideal S1024x128 .i8) (ix2 r j)
      = m ((c.tc : Thread nD τ).loc main_arg4) (ix2 (⟨1024 * t.val + r.1, by have := point_lt t; have := r.2; omega⟩ : Fin 14336) j) := by
  have e := (index_at t).2.2.2.2.1
  blk_point [iblk, e]

theorem mn_at (c : Dev nD) (t : Fin cfg0.N) (r : Fin 1024) (j : Fin 128) :
    (iblk m c 5 t : Vec Ideal S1024x128 .i8) (ix2 r j)
      = m ((c.tc : Thread nD τ).loc main_arg5) (ix2 (⟨1024 * t.val + r.1, by have := point_lt t; have := r.2; omega⟩ : Fin 14336) j) := by
  have e := (index_at t).2.2.2.2.2.1
  blk_point [iblk, e]

theorem d_at (c : Dev nD) (t : Fin cfg0.N) (h : Fin 2) (s : Fin 16) (b : Fin 4) (k : Fin 128) :
    (iblk m c 2 t : Vec Ideal S2x16x4x128 .f16) (ix4 h s b k)
      = m ((c.tc : Thread nD τ).loc main_arg2) (ix2 (⟨1024 * t.val + (512 * h.1 + 4 * k.1 + b.1), by have := point_lt t; have := h.2; have := k.2; have := b.2; omega⟩ : Fin 14336) s) := by
  have e := (index_at t).2.2.1
  have hh := host_d m c ⟨2 * t.val + h.1, by have := point_lt t; have := h.2; omega⟩ s b k
  refine Eq.trans ?_ (hh.trans ?_)
  · clear hh; blk_ext [iblk, e]
  · clear hh; congr 2; exact Fin.ext (by dsimp only; omega)

theorem dmin_at (c : Dev nD) (t : Fin cfg0.N) (h : Fin 2) (s : Fin 16) (b : Fin 4) (k : Fin 128) :
    (iblk m c 3 t : Vec Ideal S2x16x4x128 .f16) (ix4 h s b k)
      = m ((c.tc : Thread nD τ).loc main_arg3) (ix2 (⟨1024 * t.val + (512 * h.1 + 4 * k.1 + b.1), by have := point_lt t; have := h.2; have := k.2; have := b.2; omega⟩ : Fin 14336) s) := by
  have e := (index_at t).2.2.2.1
  have hh := host_dmin m c ⟨2 * t.val + h.1, by have := point_lt t; have := h.2; omega⟩ s b k
  refine Eq.trans ?_ (hh.trans ?_)
  · clear hh; blk_ext [iblk, e]
  · clear hh; congr 2; exact Fin.ext (by dsimp only; omega)

end Cert.KernelIdeal.Hand

end
-- ==== Proof.ArraysAt.lean ====
/-
  The results' arrays after the run, over the extended reals.
-/
module

public import proofs.«01_k».proof.Proof.BlocksAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.ShloMosaic.StableHlo Idealize.SL.Sem

variable (m : (ℓ : Loc nD τ sig) → Buf (Elt Ideal) ℓ) (ρ : Dev nD → PrngReg)

/-- The product's array: each point's block, one after the other. -/
def yArr (c : Dev nD) : Vec Ideal S14x32x256 .bf16 := fun i =>
  yBlk m c ⟨(i 0).val, (i 0).isLt⟩ (ix3 (0 : Fin 1) (i 1 : Fin 32) (i 2 : Fin 256))

theorem y_array (c : Dev nD) : (dats m 0 c).arrAt 6 cfg0.N = yArr m c := by
  refine (dats m 0 c).arrAt_eq_of_covers 6 _ (by decide +kernel) fun t hf y => ?_
  have e := (index_at t).2.2.2.2.2.2.1
  blk_simp [e]
  rw [after0_6]
  revert y
  intro (y : S1x32x256.Idx)
  obtain ⟨u, p, q, rfl⟩ : ∃ (u : Fin 1) (p : Fin 32) (q : Fin 256), y = ix3 u p q := ⟨y 0, y 1, y 2, eq_ix3 y⟩
  obtain rfl : u = 0 := Subsingleton.elim _ _
  have he : (win0_6.blk t).view.emb (ix3 (0 : Fin 1) p q) = (ix3 (⟨t.val, point_lt t⟩ : Fin 14) p q : S14x32x256.Idx) := by
    blk_ext [e]
  rw [he]
  rfl

theorem last_lt : 13 < cfg0.N := by rw [show cfg0.N = 14 from N_0]; decide

/-- The last grid point. -/
abbrev tLast : Fin cfg0.N := ⟨13, last_lt⟩

theorem codes_array (c : Dev nD) : (dats m 0 c).arrAt 7 cfg0.N = codesOf (xBlk m c) := by
  refine (dats m 0 c).arrAt_eq_of_after_last 7 tLast (by decide +kernel) _ fun j => ?_
  have e := (index_at tLast).2.2.2.2.2.2.2.1
  blk_simp [e]
  rw [after0_7]

theorem scales_array (c : Dev nD) : (dats m 0 c).arrAt 8 cfg0.N = scalesOf (xBlk m c) := by
  refine (dats m 0 c).arrAt_eq_of_after_last 8 tLast (by decide +kernel) _ fun j => ?_
  have e := (index_at tLast).2.2.2.2.2.2.2.2
  blk_simp [e]
  rw [after0_8]

/-- A buffer's contents after the reshapes which follow the kernel's grid. -/
abbrev endsAt (c : Dev nD) (b : Ref sig .tc) : Buf (Elt Ideal) ((c.tc : Thread nD τ).loc b) :=
  Pipeline.afterTail₀ cfgs (dats m) 0 (V0 m) [hostOps1] c b

theorem exit_y (c : Dev nD) : Pipeline.withArrays (cfgs 0).spec c (V0 m c) (fun w => (dats m 0 c).arrAt w (cfgs 0).N)
    (Proc.tc.devRef main_v5_0) = yArr m c :=
  (Pipeline.withArrays_arr spec0 launch0.win.arr_inj c (V0 m c) _ 6).trans (y_array m c)

theorem exit_codes (c : Dev nD) : Pipeline.withArrays (cfgs 0).spec c (V0 m c) (fun w => (dats m 0 c).arrAt w (cfgs 0).N)
    (Proc.tc.devRef main_v5_1) = codesOf (xBlk m c) :=
  (Pipeline.withArrays_arr spec0 launch0.win.arr_inj c (V0 m c) _ 7).trans (codes_array m c)

theorem exit_scales (c : Dev nD) : Pipeline.withArrays (cfgs 0).spec c (V0 m c) (fun w => (dats m 0 c).arrAt w (cfgs 0).N)
    (Proc.tc.devRef main_v5_2) = scalesOf (xBlk m c) :=
  (Pipeline.withArrays_arr spec0 launch0.win.arr_inj c (V0 m c) _ 8).trans (scales_array m c)

theorem ends_y (c : Dev nD) (r : Fin 8) (t : Fin 14) (h : Fin 2) (k : Fin 128) (b : Fin 4) :
    endsAt m c main_v8 (ix3 r (0 : Fin 1) (⟨1024 * t.1 + (512 * h.1 + 4 * k.1 + b.1), by have := t.2; have := h.2; have := k.2; have := b.2; omega⟩ : Fin 14336))
      = yArr m c (ix3 t (⟨b.1 * 8 + r.1, by have := b.2; have := r.2; omega⟩ : Fin 32) (⟨128 * h.1 + k.1, by have := h.2; have := k.2; omega⟩ : Fin 256)) := by
  unfold endsAt Pipeline.afterTail₀
  simp only [hostOps1, List.flatten_cons, List.flatten_nil, List.append_nil]
  after_results_simp
  rw [exit_y]
  generalize yArr m c = Y
  refine (shapeCast_apply _ _ _ (ix5 r t h k b) ?_).trans ?_
  · refine (rowMajor_val5 (ix5 r t h k b) 14336 1024 512 4 rfl rfl rfl rfl).trans (Eq.trans ?_ (rowMajor_val3 (ix3 r (0 : Fin 1) _) 14336 14336 rfl rfl).symm)
    show r.1 * 14336 + t.1 * 1024 + h.1 * 512 + k.1 * 4 + b.1 = r.1 * 14336 + 0 * 14336 + (1024 * t.1 + (512 * h.1 + 4 * k.1 + b.1))
    omega
  refine (transpose_apply _ _ _ _ (ix5 t b r h k) ?_).trans ?_
  · pointwise
  pointwise
  exact congrArg (fun o : Fin 256 => Y (ix3 t (⟨b.1 * 8 + r.1, by have := b.2; have := r.2; omega⟩ : Fin 32) o)) (Fin.ext (by dsimp only; omega))

theorem ends_codes (c : Dev nD) (r : Fin 8) (j : Fin 4096) :
    endsAt m c main_v9 (ix3 r (0 : Fin 1) j) = codesOf (xBlk m c) (ix2 r j) := by
  unfold endsAt Pipeline.afterTail₀
  simp only [hostOps1, List.flatten_cons, List.flatten_nil, List.append_nil]
  after_results_simp
  rw [exit_codes]
  generalize codesOf (xBlk m c) = Y
  pointwise

theorem ends_scales (c : Dev nD) (r : Fin 8) (s : Fin 16) :
    endsAt m c main_v10 (ix3 r (0 : Fin 1) s) = scalesOf (xBlk m c) (ix2 r s) := by
  unfold endsAt Pipeline.afterTail₀
  simp only [hostOps1, List.flatten_cons, List.flatten_nil, List.append_nil]
  after_results_simp
  rw [exit_scales]
  generalize scalesOf (xBlk m c) = Y
  pointwise

/-- Every run ends with the three results at these contents and the arguments unchanged. -/
theorem run : θ_run defs (onTc (τ := τ) (main (F := Ideal))) ⟨m, fun _ => 0, ρ⟩ (fun r => ∀ c : Dev nD,
      r.2.mem ((c.tc : Thread nD τ).loc main_v8) = endsAt m c main_v8
      ∧ r.2.mem ((c.tc : Thread nD τ).loc main_v9) = endsAt m c main_v9
      ∧ r.2.mem ((c.tc : Thread nD τ).loc main_v10) = endsAt m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h.1 c).2 main_v8 (Pipeline.mem_restRefs_of main_v8 (by decide) (by decide)),
       (h.1 c).2 main_v9 (Pipeline.mem_restRefs_of main_v9 (by decide) (by decide)),
       (h.1 c).2 main_v10 (Pipeline.mem_restRefs_of main_v10 (by decide) (by decide)), h.2 c⟩)
    (θ_run_and (run_main m ρ) (unchanged m ρ))

end Cert.KernelIdeal.Hand

end
-- ==== Proof.Meaning.lean ====
/-
  What the layer computes, as functions of extended reals and bytes: the scale, the codes and the dequantised
  activations of a super-block, and a weight.
-/
module

public import Idealize.ShloMosaic.Lib.Pointwise

@[expose] public section

noncomputable section

namespace Cert.Meaning

open Idealize.ShloMosaic

/-- The largest magnitude of a super-block. -/
def amax (row : Fin 256 → EReal) : EReal :=
  Finset.fold max (Ideal.ofBits FTy.f32 0xFF800000#32) (fun x => FloatOps.absf (F := Ideal) (φ := .f32) (row x)) Finset.univ

/-- The scale of a super-block. -/
def scl (row : Fin 256 → EReal) : EReal :=
  if amax row = 0 then 1 else Ideal.div (amax row) (Ideal.ofBits FTy.f32 0x42FE0000#32)

/-- The code of an activation, as a number. -/
def code (row : Fin 256 → EReal) (k : Fin 256) : EReal :=
  min (Ideal.ofBits FTy.f32 0x42FE0000#32)
    (max (Ideal.ofBits FTy.f32 0xC2FE0000#32) (Ideal.liftRound Ideal.roundHalfEven (Ideal.div (row k) (scl row))))

/-- The dequantised activation. -/
def act (row : Fin 256 → EReal) (k : Fin 256) : EReal := code row k * scl row

/-- The low or the high nibble of a byte. -/
def nib (b : BitVec 8) : Fin 2 → ℕ
  | 0 => b.toNat % 16
  | 1 => b.toNat / 16

/-- A byte as a number. -/
def num (b : BitVec 8) : EReal := FloatOps.sitofp (F := Ideal) .f32 (b.setWidth 32)

/-- The weight of a nibble with its sub-block's codes and its super-block's scales. -/
def weight (q : BitVec 8) (half : Fin 2) (sc mn : BitVec 8) (d dmin : EReal) : EReal :=
  (((nib q half : ℕ) : ℝ) : EReal) * (d * num sc) - dmin * num mn

theorem ofBits_127 : Ideal.ofBits FTy.f32 0x42FE0000#32 = ((127 : ℝ) : EReal) := by
  have h1 : ((0x42FE0000#32).extractLsb' (8 + 23) 1 == 1#1) = false := by decide
  have h2 : ((0x42FE0000#32).extractLsb' 23 8).toNat = 133 := by decide
  have h3 : ((0x42FE0000#32).extractLsb' 0 23).toNat = 8257536 := by decide
  simp only [Ideal.ofBits, Ideal.ieee]
  rw [h1, h2, h3]
  norm_num

theorem ofBits_neg_127 : Ideal.ofBits FTy.f32 0xC2FE0000#32 = ((-127 : ℝ) : EReal) := by
  have h1 : ((0xC2FE0000#32).extractLsb' (8 + 23) 1 == 1#1) = true := by decide
  have h2 : ((0xC2FE0000#32).extractLsb' 23 8).toNat = 133 := by decide
  have h3 : ((0xC2FE0000#32).extractLsb' 0 23).toNat = 8257536 := by decide
  simp only [Ideal.ofBits, Ideal.ieee]
  rw [h1, h2, h3]
  norm_num

theorem ofBits_512 : Ideal.ofBits FTy.f32 0x44000000#32 = ((512 : ℝ) : EReal) := by
  have h1 : ((0x44000000#32).extractLsb' (8 + 23) 1 == 1#1) = false := by decide
  have h2 : ((0x44000000#32).extractLsb' 23 8).toNat = 136 := by decide
  have h3 : ((0x44000000#32).extractLsb' 0 23).toNat = 0 := by decide
  simp only [Ideal.ofBits, Ideal.ieee]
  rw [h1, h2, h3]
  norm_num

/-- A code is a whole number from -127 to 127. -/
theorem code_int (row : Fin 256 → EReal) (k : Fin 256) : ∃ n : ℤ, -127 ≤ n ∧ n ≤ 127 ∧ code row k = ((n : ℝ) : EReal) := by
  unfold code
  rw [ofBits_127, ofBits_neg_127]
  generalize Ideal.div (row k) (scl row) = z
  induction z using EReal.rec with
  | bot => exact ⟨-127, le_refl _, by decide, by
      rw [Ideal.liftRound_bot, max_eq_left bot_le, min_eq_right (by exact_mod_cast (by norm_num : (-127 : ℝ) ≤ 127))]; norm_num⟩
  | top => exact ⟨127, by decide, le_refl _, by
      rw [Ideal.liftRound_top, max_eq_right le_top, min_eq_left le_top]; norm_num⟩
  | coe r =>
    rw [Ideal.liftRound_coe]
    refine ⟨min 127 (max (-127) (Ideal.roundHalfEven r)), ?_, ?_, ?_⟩
    · exact le_min (by decide) (le_max_left _ _)
    · exact min_le_left _ _
    · push_cast
      rw [← EReal.coe_neg, EReal.coe_strictMono.monotone.map_min, EReal.coe_strictMono.monotone.map_max]

/-- The code stored as a byte. -/
theorem fptosi_code_8 (n : ℤ) (h1 : -127 ≤ n) (h2 : n ≤ 127) : Ideal.fptosi 8 ((n : ℝ) : EReal) = BitVec.ofInt 8 n := by
  unfold Ideal.fptosi
  congr 1
  show max _ (min _ (if 0 ≤ (n : ℝ) then ⌊(n : ℝ)⌋ else ⌈(n : ℝ)⌉)) = n
  rw [Int.floor_intCast, Int.ceil_intCast, ite_self]
  norm_num
  omega

theorem fptosi_code_32 (n : ℤ) (h1 : -127 ≤ n) (h2 : n ≤ 127) : Ideal.fptosi 32 ((n : ℝ) : EReal) = BitVec.ofInt 32 n := by
  unfold Ideal.fptosi
  congr 1
  show max _ (min _ (if 0 ≤ (n : ℝ) then ⌊(n : ℝ)⌋ else ⌈(n : ℝ)⌉)) = n
  rw [Int.floor_intCast, Int.ceil_intCast, ite_self]
  norm_num
  omega

/-- Taken through a word, the code is the same byte. -/
theorem code_byte (row : Fin 256 → EReal) (k : Fin 256) :
    (Ideal.fptosi 32 (code row k)).setWidth 8 = Ideal.fptosi 8 (code row k) := by
  obtain ⟨n, h1, h2, e⟩ := code_int row k
  rw [e, fptosi_code_8 n h1 h2, fptosi_code_32 n h1 h2]
  apply BitVec.eq_of_toInt_eq
  rw [BitVec.toInt_setWidth, BitVec.toNat_ofInt, BitVec.toInt_ofInt]
  rw [Int.toNat_of_nonneg (Int.emod_nonneg _ (by norm_num))]
  rw [Int.bmod_def, Int.bmod_def]
  norm_num

/-- Read back from its byte, the code is the same number. -/
theorem code_back (row : Fin 256 → EReal) (k : Fin 256) :
    ((((Ideal.fptosi 8 (code row k)).signExtend 32).toInt : ℝ) : EReal) = code row k := by
  obtain ⟨n, h1, h2, e⟩ := code_int row k
  rw [e, fptosi_code_8 n h1 h2, BitVec.toInt_signExtend_of_le (by decide), BitVec.toInt_ofInt]
  congr 2
  rw [Int.bmod_def]
  norm_num
  omega

/-- A nibble, read as an fp8 number, is that many units of 2⁻⁹. -/
theorem fp8_nibble : ∀ n : Fin 16, Ideal.ofBits FTy.fp8e4m3 (BitVec.ofNat 8 n.val) = ((n.val : ℝ) * (2 : ℝ) ^ (-9 : ℤ) : ℝ) := by
  intro n
  show Ideal.e4m3fn _ = _
  have h1 : ((BitVec.ofNat 8 n.val).extractLsb' 7 1 == 1#1) = false := by revert n; decide
  have h2 : ((BitVec.ofNat 8 n.val).extractLsb' 3 4).toNat = n.val / 8 := by revert n; decide
  have h3 : ((BitVec.ofNat 8 n.val).extractLsb' 0 3).toNat = n.val % 8 := by revert n; decide
  unfold Ideal.e4m3fn
  rw [h1, h2, h3]
  fin_cases n <;> norm_num

theorem nib_lt (b : BitVec 8) (half : Fin 2) : nib b half < 16 := by
  have := b.isLt
  fin_cases half
  · show b.toNat % 16 < 16; omega
  · show b.toNat / 16 < 16; omega

/-- The kernel's weight: the unit of the fp8 numbers cancels against the constant in the scales. -/
theorem weight_eq (q : BitVec 8) (half : Fin 2) (sc mn : BitVec 8) (d dmin : EReal) :
    Ideal.ofBits FTy.fp8e4m3 (BitVec.ofNat 8 (nib q half)) * (num sc * (d * Ideal.ofBits FTy.f32 0x44000000#32)) - num mn * (dmin * 1)
      = weight q half sc mn d dmin := by
  rw [fp8_nibble ⟨nib q half, nib_lt q half⟩, ofBits_512]
  unfold weight
  rw [mul_one, mul_comm (num mn), EReal.coe_mul, mul_comm d (num sc), ← mul_assoc (num sc),
    mul_comm (num sc * d) ((512 : ℝ) : EReal), ← mul_assoc, mul_assoc ((nib q half : ℝ) : EReal), ← EReal.coe_mul,
    show ((2 : ℝ) ^ (-9 : ℤ) * 512) = 1 by norm_num, EReal.coe_one, mul_one]

end Cert.Meaning

end
-- ==== Proof.QuantiseAt.lean ====
/-
  The quantiser's results at an index, over the extended reals.
-/
module

public import proofs.«01_k».proof.Proof.Covers
public import proofs.«01_k».proof.Proof.Meaning
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Cert.Meaning

/-! ## The payloads of one super-block -/

theorem pay3_at (v : Vec Ideal S8x256 .bf16) (r : Fin 8) : k0_pay3 (F := Ideal) v (ix2 r 0) = scl (fun k => v (ix2 r k)) := by
  pointwise [k0_pay3, k0_pay2]
  rfl

theorem pay4_at (v : Vec Ideal S8x256 .bf16) (r : Fin 8) (k : Fin 256) :
    k0_pay4 (F := Ideal) v (ix2 r k) = code (fun k => v (ix2 r k)) k := by
  have h := pay3_at v r
  pointwise [k0_pay4, k0_pay2]
  rw [h]
  rfl

theorem pay5_at (v : Vec Ideal S8x256 .bf16) (r : Fin 8) (k : Fin 256) :
    k0_pay5 (F := Ideal) v (ix2 r k) = Ideal.fptosi 8 (code (fun k => v (ix2 r k)) k) := by
  have h := pay4_at v r k
  pointwise [k0_pay5]
  rw [h]
  rfl

theorem pay6_at (v : Vec Ideal S8x256 .bf16) (r : Fin 8) (k : Fin 256) :
    k0_pay6 (F := Ideal) v (ix2 r k) = act (fun k => v (ix2 r k)) k := by
  have h := pay4_at v r k
  have h' := pay3_at v r
  pointwise [k0_pay6]
  rw [h, h']
  rfl

/-- Row `r` of super-block `s` of the activations. -/
def xrow (x0 : Vec Ideal S8x4096 .bf16) (r : Fin 8) (s : Fin 16) : Fin 256 → EReal :=
  fun k => x0 (ix2 r ⟨256 * s.1 + k.1, by have := s.2; have := k.2; omega⟩)

theorem xTile_row (x0 : Vec Ideal S8x4096 .bf16) (r : Fin 8) (s : Fin 16) : (fun k => xTile x0 s (ix2 r k)) = xrow x0 r s := by
  funext k
  show x0 _ = x0 _
  congr 1
  funext a
  fin_cases a
  · exact Fin.ext (by show 0 + 1 * r.1 = r.1; omega)
  · exact Fin.ext (by show 256 * s.1 + 1 * k.1 = 256 * s.1 + k.1; omega)

/-! ## The buffers -/

/-- The code of activation `j` of row `r`, as a number. -/
def codeAt (x0 : Vec Ideal S8x4096 .bf16) (r : Fin 8) (j : Fin 4096) : EReal :=
  code (xrow x0 r ⟨j.1 / 256, by have := j.2; omega⟩) ⟨j.1 % 256, by omega⟩

/-- The dequantised activation `j` of row `r`. -/
def actAt (x0 : Vec Ideal S8x4096 .bf16) (r : Fin 8) (j : Fin 4096) : EReal :=
  act (xrow x0 r ⟨j.1 / 256, by have := j.2; omega⟩) ⟨j.1 % 256, by omega⟩

theorem div_of (s : Fin 16) (k : Fin 256) (h : (256 * s.1 + k.1) / 256 < 16) : (⟨(256 * s.1 + k.1) / 256, h⟩ : Fin 16) = s :=
  Fin.ext (by have := k.2; show (256 * s.1 + k.1) / 256 = s.1; omega)

theorem mod_of (s : Fin 16) (k : Fin 256) (h : (256 * s.1 + k.1) % 256 < 256) : (⟨(256 * s.1 + k.1) % 256, h⟩ : Fin 256) = k :=
  Fin.ext (by have := k.2; show (256 * s.1 + k.1) % 256 = k.1; omega)

theorem codeAt_of (x0 : Vec Ideal S8x4096 .bf16) (r : Fin 8) (s : Fin 16) (k : Fin 256) (h : 256 * s.1 + k.1 < 4096) :
    codeAt x0 r ⟨256 * s.1 + k.1, h⟩ = code (xrow x0 r s) k := by
  unfold codeAt
  rw [div_of s k, mod_of s k]

theorem actAt_of (x0 : Vec Ideal S8x4096 .bf16) (r : Fin 8) (s : Fin 16) (k : Fin 256) (h : 256 * s.1 + k.1 < 4096) :
    actAt x0 r ⟨256 * s.1 + k.1, h⟩ = act (xrow x0 r s) k := by
  unfold actAt
  rw [div_of s k, mod_of s k]

theorem codesOf_at (x0 : Vec Ideal S8x4096 .bf16) (r : Fin 8) (j : Fin 4096) :
    codesOf x0 (ix2 r j) = Ideal.fptosi 8 (codeAt x0 r j) := by
  refine View.canon_apply_of_pieces (G := fun y : S8x4096.Idx => Ideal.fptosi 8 (codeAt x0 (y 0) (y 1))) _ ?_ _ (cover_codes x0 _)
  intro p hp x
  obtain ⟨s, rfl⟩ := of_mem_codePieces x0 p hp
  revert x
  intro (x : S8x256.Idx)
  obtain ⟨r, k, rfl⟩ : ∃ (r : Fin 8) (k : Fin 256), x = ix2 r k := ⟨x 0, x 1, eq_ix2 x⟩
  have e : (codePiece x0 s).1.emb (ix2 r k) = ix2 r (⟨256 * s.1 + k.1, by have := s.2; have := k.2; omega⟩ : Fin 4096) := by
    funext a
    fin_cases a
    · exact Fin.ext (by show 0 + 1 * r.1 = r.1; omega)
    · exact Fin.ext (by show 256 * s.1 + 1 * k.1 = 256 * s.1 + k.1; omega)
  rw [e]
  show k0_pay5 (F := Ideal) (xTile x0 s) (ix2 r k) = Ideal.fptosi 8 (codeAt x0 r ⟨256 * s.1 + k.1, _⟩)
  rw [codeAt_of x0 r s k, pay5_at, xTile_row]

theorem scalesOf_at (x0 : Vec Ideal S8x4096 .bf16) (r : Fin 8) (s : Fin 16) :
    scalesOf x0 (ix2 r s) = scl (xrow x0 r s) := by
  refine View.canon_apply_of_pieces (G := fun y : S8x16.Idx => scl (xrow x0 (y 0) (y 1))) _ ?_ _ (cover_scales x0 _)
  intro p hp x
  obtain ⟨s, rfl⟩ := of_mem_scalePieces x0 p hp
  revert x
  intro (x : S8x1.Idx)
  obtain ⟨r, rfl⟩ : ∃ r : Fin 8, x = ix2 r (0 : Fin 1) := ⟨x 0, (eq_ix2 x).trans (congrArg _ (Subsingleton.elim (α := Fin 1) _ _))⟩
  have e : (scalePiece x0 s).1.emb (ix2 r (0 : Fin 1)) = ix2 r s := by
    funext a
    fin_cases a
    · exact Fin.ext (by show 0 + 1 * r.1 = r.1; omega)
    · exact Fin.ext (by show s.1 + 1 * 0 = s.1; omega)
  rw [e]
  show k0_pay3 (F := Ideal) (xTile x0 s) (ix2 r 0) = scl (xrow x0 r s)
  rw [pay3_at, xTile_row]

theorem xqAll_at (x0 : Vec Ideal S8x4096 .bf16) (s : Fin 16) (r : Fin 8) (k : Fin 256) :
    xqAll x0 (ix2 ⟨8 * s.1 + r.1, by have := s.2; have := r.2; omega⟩ k) = act (xrow x0 r s) k := by
  unfold xqAll
  rw [View.ld_unit_zero (S := S128x256) (by funext a; fin_cases a <;> rfl)]
  refine (View.canon_apply_of_pieces (G := fun y : S128x256.Idx => act (xrow x0 ⟨(y 0).1 % 8, by omega⟩ ⟨(y 0).1 / 8, by
    have : (y 0).1 < 128 := (y 0).2; omega⟩) (y 1)) _ ?_ _ (cover_xq x0 _)).trans ?_
  · intro p hp x
    obtain ⟨s, rfl⟩ := of_mem_xqPieces x0 p hp
    revert x
    intro (x : S8x256.Idx)
    obtain ⟨r, k, rfl⟩ : ∃ (r : Fin 8) (k : Fin 256), x = ix2 r k := ⟨x 0, x 1, eq_ix2 x⟩
    have e : (xqPiece x0 s).1.emb (ix2 r k) = ix2 (⟨8 * s.1 + r.1, by have := s.2; have := r.2; omega⟩ : Fin 128) k := by
      funext a
      fin_cases a
      · exact Fin.ext (by show 8 * s.1 + 1 * r.1 = 8 * s.1 + r.1; omega)
      · exact Fin.ext (by show 0 + 1 * k.1 = k.1; omega)
    rw [e]
    have := r.2
    have h1 : (⟨(8 * s.1 + r.1) % 8, by omega⟩ : Fin 8) = r := Fin.ext (by show (8 * s.1 + r.1) % 8 = r.1; omega)
    have h2 : (⟨(8 * s.1 + r.1) / 8, by have := s.2; omega⟩ : Fin 16) = s := Fin.ext (by show (8 * s.1 + r.1) / 8 = s.1; omega)
    show k0_pay6 (F := Ideal) (xTile x0 s) (ix2 r k) = act (xrow x0 ⟨(8 * s.1 + r.1) % 8, _⟩ ⟨(8 * s.1 + r.1) / 8, _⟩) k
    rw [h1, h2, pay6_at, xTile_row]
  · have := r.2
    have h1 : (⟨(8 * s.1 + r.1) % 8, by omega⟩ : Fin 8) = r := Fin.ext (by show (8 * s.1 + r.1) % 8 = r.1; omega)
    have h2 : (⟨(8 * s.1 + r.1) / 8, by have := s.2; omega⟩ : Fin 16) = s := Fin.ext (by show (8 * s.1 + r.1) / 8 = s.1; omega)
    show act (xrow x0 ⟨(8 * s.1 + r.1) % 8, _⟩ ⟨(8 * s.1 + r.1) / 8, _⟩) k = _
    rw [h1, h2]

/-! ## The spread left operand -/

theorem posOf_row (r : Fin 256) (k : Fin 512) : posOf (ix2 r k) = posOf (ix2 0 k) := by
  pointwise [posOf, k0_pay102, k0_pay98, k0_pay94, k0_pay95, k0_pay96, k0_pay99, k0_pay100, k0_pay101, k0_pay97]

theorem posOf_col : ∀ k : Fin 512, posOf (ix2 0 k) = BitVec.ofNat 32 (k.1 / 4 / 32 * 64 + k.1 / 4 % 32) := by
  decide +kernel

theorem pay103_row (r : Fin 8) (k : Fin 512) : k0_pay103 (ix2 r k) = k0_pay103 (ix2 0 k) := by
  pointwise [k0_pay103]

theorem pay103_col : ∀ k : Fin 512, k0_pay103 (ix2 0 k) = BitVec.ofNat 32 (k.1 % 4) := by
  decide +kernel

/-- The position within a super-block of the activation a spread column of one half holds. -/
def pos (half : Fin 2) (k : Fin 512) : Fin 256 :=
  ⟨k.1 / 4 / 32 * 64 + k.1 / 4 % 32 + 32 * half.1, by have := k.2; have := half.2; omega⟩

theorem select_cmpi_eq {α : Type} (a b : BitVec 32) (x y : α) :
    Scalar.select (IntOp.cmpi .eq a b) x y = if a = b then x else y := by
  by_cases h : a = b
  · subst h
    rw [if_pos rfl]
    show (if BitVec.ofBool (a == a) = 1#1 then x else y) = x
    rw [beq_self_eq_true]; rfl
  · rw [if_neg h]
    show (if BitVec.ofBool (a == b) = 1#1 then x else y) = y
    rw [beq_false_of_ne h]; rfl

theorem sel_at (half : Fin 2) (x : Fin 256) (k : Fin 512) :
    sel (F := Ideal) (halfOff half) (ix2 x k) = if x = pos half k then 1 else 0 := by
  have h := (posOf_row x k).trans (posOf_col k)
  pointwise [sel]
  rw [h]
  have hx := x.2
  have hk := k.2
  have e : (BitVec.ofNat 32 x.1 = BitVec.ofNat 32 (k.1 / 4 / 32 * 64 + k.1 / 4 % 32) + halfOff half) ↔ x = pos half k := by
    rw [← BitVec.toNat_inj, Fin.ext_iff, BitVec.toNat_add]
    fin_cases half
    · show (x.1 % 2 ^ 32 = ((k.1 / 4 / 32 * 64 + k.1 / 4 % 32) % 2 ^ 32 + 0) % 2 ^ 32) ↔ x.1 = k.1 / 4 / 32 * 64 + k.1 / 4 % 32 + 32 * 0
      omega
    · show (x.1 % 2 ^ 32 = ((k.1 / 4 / 32 * 64 + k.1 / 4 % 32) % 2 ^ 32 + 32) % 2 ^ 32) ↔ x.1 = k.1 / 4 / 32 * 64 + k.1 / 4 % 32 + 32 * 1
      omega
  rw [select_cmpi_eq]
  exact if_congr e rfl rfl

theorem rep_at (half : Fin 2) (v : Vec Ideal S128x256 .f32) (r : Fin 128) (k : Fin 512) :
    rep (F := Ideal) (halfOff half) v (ix2 r k) = v (ix2 r (pos half k)) := by
  have h : ∀ x, sel (F := Ideal) (halfOff half) (ix2 x k) = if x = pos half k then 1 else 0 := fun x => sel_at half x k
  pointwise [rep]
  simp only [h, mul_ite, mul_one, mul_zero, Finset.sum_ite_eq', Finset.mem_univ, if_true]

theorem keepRow_at (v : FVec Ideal S128x512 .f32) (s : Fin 16) (b : Fin 4) (r : Fin 8) (k : Fin 512) :
    keepRow (F := Ideal) v s (BitVec.ofNat 32 b.1) (ix2 r k)
      = if k.1 % 4 = b.1 then v (ix2 ⟨8 * s.1 + r.1, by have := s.2; have := r.2; omega⟩ k) else 0 := by
  have h := (pay103_row r k).trans (pay103_col k)
  pointwise [keepRow]
  rw [h, select_cmpi_eq]
  refine if_congr ?_ rfl rfl
  have := b.2
  rw [← BitVec.toNat_inj]
  show k.1 % 4 % 2 ^ 32 = b.1 % 2 ^ 32 ↔ _
  omega

theorem lhsTile_at (v : FVec Ideal S128x512 .f32) (s : Fin 16) (b : Fin 4) (r : Fin 8) (k : Fin 512) :
    lhsTile (F := Ideal) v s (ix3 0 ⟨b.1 * 8 + r.1, by have := b.2; have := r.2; omega⟩ k) = keepRow (F := Ideal) v s (BitVec.ofNat 32 b.1) (ix2 r k) := by
  have hr := r.2
  fin_cases b <;> pointwise [lhsTile]
  · rw [dif_neg (by omega), dif_neg (by omega), dif_pos (by omega)]
    congr 2
    exact Fin.ext (by show 16 + r.1 - 8 - 8 = r.1; omega)
  · rw [dif_neg (by omega), dif_neg (by omega), dif_neg (by omega)]
    congr 2
    exact Fin.ext (by show 24 + r.1 - 8 - 8 - 8 = r.1; omega)

theorem lhsOf_at (x0 : Vec Ideal S8x4096 .bf16) (half : Fin 2) (b : Fin 4) (r : Fin 8) (s : Fin 16) (k : Fin 512) :
    lhsOf x0 (ix3 half ⟨b.1 * 8 + r.1, by have := b.2; have := r.2; omega⟩ ⟨512 * s.1 + k.1, by have := s.2; have := k.2; omega⟩)
      = if k.1 % 4 = b.1 then act (xrow x0 r s) (pos half k) else 0 := by
  refine (View.canon_apply_of_pieces (G := fun y : S2x32x8192.Idx => lhsTile (rep (halfOff (y 0)) (xqAll x0))
    ⟨(y 2).1 / 512, by have : (y 2).1 < 8192 := (y 2).2; omega⟩ (ix3 0 (y 1) ⟨(y 2).1 % 512, by omega⟩)) _ ?_ _ (cover_lhs x0 _)).trans ?_
  · intro p hp x
    obtain ⟨half, s, rfl⟩ := of_mem_lhsAll x0 p hp
    revert x
    intro (x : S1x32x512.Idx)
    obtain ⟨r, k, rfl⟩ : ∃ (r : Fin 32) (k : Fin 512), x = ix3 (0 : Fin 1) r k :=
      ⟨x 1, x 2, (eq_ix3 x).trans (congrArg (fun z => ix3 z (x 1) (x 2)) (Subsingleton.elim (α := Fin 1) _ _))⟩
    have e : (lhsPiece (rep (halfOff half) (xqAll x0)) half s).1.emb (ix3 (0 : Fin 1) r k)
        = ix3 half r (⟨512 * s.1 + k.1, by have := s.2; have := k.2; omega⟩ : Fin 8192) := by
      funext a
      fin_cases a
      · exact Fin.ext (by show half.1 + 1 * 0 = half.1; omega)
      · exact Fin.ext (by show 0 + 1 * r.1 = r.1; omega)
      · exact Fin.ext (by show 512 * s.1 + 1 * k.1 = 512 * s.1 + k.1; omega)
    rw [e]
    have := k.2
    have h1 : (⟨(512 * s.1 + k.1) % 512, by omega⟩ : Fin 512) = k := Fin.ext (by show (512 * s.1 + k.1) % 512 = k.1; omega)
    have h2 : (⟨(512 * s.1 + k.1) / 512, by have := s.2; omega⟩ : Fin 16) = s := Fin.ext (by show (512 * s.1 + k.1) / 512 = s.1; omega)
    show lhsTile (rep (halfOff half) (xqAll x0)) s (ix3 0 r k)
      = lhsTile (rep (halfOff half) (xqAll x0)) ⟨(512 * s.1 + k.1) / 512, _⟩ (ix3 0 r ⟨(512 * s.1 + k.1) % 512, _⟩)
    rw [h1, h2]
  · have := k.2
    have h1 : (⟨(512 * s.1 + k.1) % 512, by omega⟩ : Fin 512) = k := Fin.ext (by show (512 * s.1 + k.1) % 512 = k.1; omega)
    have h2 : (⟨(512 * s.1 + k.1) / 512, by have := s.2; omega⟩ : Fin 16) = s := Fin.ext (by show (512 * s.1 + k.1) / 512 = s.1; omega)
    show lhsTile (rep (halfOff half) (xqAll x0)) ⟨(512 * s.1 + k.1) / 512, _⟩
      (ix3 0 ⟨b.1 * 8 + r.1, _⟩ ⟨(512 * s.1 + k.1) % 512, _⟩) = _
    rw [h1, h2, lhsTile_at, keepRow_at, rep_at, xqAll_at]

end Cert.KernelIdeal.Hand

end
-- ==== Proof.WeightsAt.lean ====
/-
  The weights at an index, over the extended reals.
-/
module

public import proofs.«01_k».proof.Proof.Vocabulary
public import proofs.«01_k».proof.Proof.Meaning
public import Idealize.ShloMosaic.Lib.Pointwise
public import Idealize.ShloMosaic.Lib.Pipeline.Value
public import Idealize.ShloMosaic.Lib.BitcastFour

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Cert.Meaning

/-! ## Bytes of words -/

theorem byte_bit (v : IVec S128x128 32) (p : Fin 512) (l : Fin 128) (j : ℕ) (hj : j < 8) :
    (bitcast S512x128 8 v bitcasts_S128x128_w32_S512x128_w8 (ix2 p l)).getLsbD j
      = (v (ix2 ⟨p.1 / 4, by have := p.2; omega⟩ l)).getLsbD (8 * (p.1 % 4) + j) := by
  have hp := p.2
  rw [bitcast_getLsbD v bitcasts_S128x128_w32_S512x128_w8 (ix2 p l) j hj (by decide)]
  have hrow : S512x128.row (ix2 p l) = p.1 := rfl
  rw [show (S512x128.row (ix2 p l) * 8 + j) % 32 = 8 * (p.1 % 4) + j by rw [hrow]; omega]
  congr 2
  funext a
  match a with
  | ⟨0, _⟩ =>
    refine Fin.ext ((bitcasts_S128x128_w32_S512x128_w8.srcIdx_row _ _ _ ⟨0, Nat.zero_lt_two⟩ rfl).trans ?_)
    show (S512x128.row (ix2 p l) * 8 + j) / 32 = p.1 / 4
    rw [hrow]; omega
  | ⟨1, _⟩ => exact Fin.ext (bitcasts_S128x128_w32_S512x128_w8.srcIdx_other _ _ _ ⟨1, Nat.one_lt_two⟩ (by decide))

/-- A byte of the transposed words of a tile is a byte of the tile. -/
theorem words_byte (q : Vec Ideal S512x128 .i8) (p : Fin 512) (l : Fin 128) :
    bitcast S512x128 8 (words q) bitcasts_S128x128_w32_S512x128_w8 (ix2 p l)
      = q (ix2 ⟨4 * l.1 + p.1 % 4, by have := l.2; omega⟩ ⟨p.1 / 4, by have := p.2; omega⟩) := by
  apply BitVec.eq_of_getLsbD_eq
  intro j hj
  rw [byte_bit _ p l j hj]
  show (bitcast S128x128 32 q bitcasts_S512x128_w8_S128x128_w32 _).getLsbD _ = _
  refine (congrArg (fun i => (bitcast S128x128 32 q bitcasts_S512x128_w8_S128x128_w32 i).getLsbD _)
    (show _ = ValueIdx.ix2 l (⟨p.1 / 4, by have := p.2; omega⟩ : Fin 128) from ?_)).trans ?_
  · funext a; match a with
    | ⟨0, _⟩ => rfl
    | ⟨1, _⟩ => rfl
  · rw [bitcast_8_32_getLsbD_ix2 q bitcasts_S512x128_w8_S128x128_w32 l _ (8 * (p.1 % 4) + j) (by omega)
      ⟨4 * l.1 + p.1 % 4, by have := l.2; omega⟩ (by show 4 * l.1 + p.1 % 4 = 4 * l.1 + (8 * (p.1 % 4) + j) / 8; omega)]
    rw [show (8 * (p.1 % 4) + j) % 8 = j by omega]
    rfl

theorem mask_bit : ∀ (b : Fin 4) (j : Fin 8), (252645135#32).getLsbD (8 * b.1 + j.1) = decide (j.1 < 4) := by decide

theorem nib_bit (x : BitVec 8) (half : Fin 2) (j : ℕ) (hj : j < 8) :
    (BitVec.ofNat 8 (nib x half)).getLsbD j = (decide (j < 4) && x.getLsbD (j + 4 * half.1)) := by
  rw [BitVec.getLsbD_ofNat, decide_eq_true hj, Bool.true_and]
  fin_cases half
  · show (x.toNat % 2 ^ 4).testBit j = (decide (j < 4) && x.toNat.testBit j)
    rw [Nat.testBit_mod_two_pow]
  · show (x.toNat / 2 ^ 4).testBit j = (decide (j < 4) && x.toNat.testBit (j + 4))
    rw [Nat.testBit_div_two_pow]
    by_cases h : j < 4
    · rw [decide_eq_true h, Bool.true_and]
    · rw [decide_eq_false h, Bool.false_and]
      exact Nat.testBit_lt_two_pow (Nat.lt_of_lt_of_le x.isLt (Nat.pow_le_pow_right (by decide) (by omega)))

/-- A byte of the nibbles is the nibble of the byte. -/
theorem nibbles_byte (v : IVec S128x128 32) (half : Fin 2) (p : Fin 512) (l : Fin 128) :
    bitcast S512x128 8 (nibbles v half) bitcasts_S128x128_w32_S512x128_w8 (ix2 p l)
      = BitVec.ofNat 8 (nib (bitcast S512x128 8 v bitcasts_S128x128_w32_S512x128_w8 (ix2 p l)) half) := by
  apply BitVec.eq_of_getLsbD_eq
  intro j hj
  rw [nib_bit _ half j hj, byte_bit _ p l j hj]
  generalize hw : (ix2 ⟨p.1 / 4, _⟩ l : S128x128.Idx) = i
  have hm := mask_bit ⟨p.1 % 4, by omega⟩ ⟨j, hj⟩
  fin_cases half
  · show (v i &&& 252645135#32).getLsbD _ = _
    rw [BitVec.getLsbD_and, hm, Bool.and_comm]
    show _ = (decide (j < 4) && (bitcast S512x128 8 v bitcasts_S128x128_w32_S512x128_w8 (ix2 p l)).getLsbD j)
    rw [byte_bit _ p l j hj, hw]
  · have e : nibbles v 1 i = (v i >>> 4) &&& 252645135#32 := by rfl
    show (nibbles v 1 i).getLsbD _ = _
    rw [e, BitVec.getLsbD_and, hm, Bool.and_comm, BitVec.getLsbD_ushiftRight]
    show _ = (decide (j < 4) && (bitcast S512x128 8 v bitcasts_S128x128_w32_S512x128_w8 (ix2 p l)).getLsbD (j + 4))
    by_cases h : j < 4
    · rw [byte_bit _ p l (j + 4) (by omega), hw]
      congr 2
      omega
    · simp only [h, decide_false, Bool.false_and]

/-! ## The scales -/

theorem scaleTile_at (u : BitVec 32) (v : Vec Ideal S512x128 .i8) (d : Vec Ideal S1x16x4x128 .f16) (a : Fin 64) (b : Fin 8) (k : Fin 128) :
    scaleTile (F := Ideal) u v d (ix3 a b k)
      = num (v (ix2 ⟨4 * k.1 + b.1 % 4, by have := k.2; omega⟩ ⟨2 * a.1 + b.1 / 4, by have := a.2; have := b.2; omega⟩))
        * (d (ix4 0 ⟨a.1 / 4, by have := a.2; omega⟩ ⟨b.1 % 4, by omega⟩ k) * Ideal.ofBits .f32 u) := by
  have hw : ∀ p : Fin 512, _ := fun p => words_byte v p k
  unfold words at hw
  pointwise [scaleTile]
  simp only [hw]
  have ha := a.2
  have hb := b.2
  have e1 : (⟨4 * k.1 + (a.1 / 4 * 32 + a.1 % 4 * 8 + b.1) % 4, by have := k.2; omega⟩ : Fin 512) = ⟨4 * k.1 + b.1 % 4, by have := k.2; omega⟩ :=
    Fin.ext (by show 4 * k.1 + (a.1 / 4 * 32 + a.1 % 4 * 8 + b.1) % 4 = 4 * k.1 + b.1 % 4; omega)
  have e2 : (⟨(a.1 / 4 * 32 + a.1 % 4 * 8 + b.1) / 4, by omega⟩ : Fin 128) = ⟨2 * a.1 + b.1 / 4, by omega⟩ :=
    Fin.ext (by show (a.1 / 4 * 32 + a.1 % 4 * 8 + b.1) / 4 = 2 * a.1 + b.1 / 4; omega)
  rw [e1, e2]
  show num _ * _ = _
  congr 1
  split
  · rename_i h
    congr 3
    exact Fin.ext (by show b.1 = b.1 % 4; omega)
  · rename_i h
    congr 3
    exact Fin.ext (by show b.1 - 4 = b.1 % 4; omega)

theorem tileOf_at (u : BitVec 32) (x : Vec Ideal S1024x128 .i8) (d : Vec Ideal S2x16x4x128 .f16) (h : Fin 2)
    (a : Fin 64) (b : Fin 8) (k : Fin 128) :
    tileOf (F := Ideal) u x d h (ix3 a b k)
      = num (x (ix2 ⟨512 * h.1 + 4 * k.1 + b.1 % 4, by have := h.2; have := k.2; omega⟩ ⟨2 * a.1 + b.1 / 4, by have := a.2; have := b.2; omega⟩))
        * (d (ix4 h ⟨a.1 / 4, by have := a.2; omega⟩ ⟨b.1 % 4, by omega⟩ k) * Ideal.ofBits .f32 u) := by
  have hx : ∀ (p : Fin 512) (q : Fin 128), View.ld (Val := Elt Ideal) (e' := .i8) x (Rect.unit ![512 * h.1, 0] S512x128.size (inb_code h)) (ix2 p q)
      = x (ix2 ⟨512 * h.1 + p.1, by have := h.2; have := p.2; omega⟩ q) := fun p q => by
    show x _ = x _
    congr 1
    funext c; fin_cases c
    · exact Fin.ext (by show 512 * h.1 + 1 * p.1 = 512 * h.1 + p.1; omega)
    · exact Fin.ext (by show 0 + 1 * q.1 = q.1; omega)
  have hd : ∀ (p : Fin 16) (b : Fin 4) (q : Fin 128), View.ld (Val := Elt Ideal) (e' := .f16) d (Rect.unit ![h.1, 0, 0, 0] S1x16x4x128.size (inb_d h)) (ix4 0 p b q)
      = d (ix4 h p b q) := fun p b q => by
    show d _ = d _
    congr 1
    funext c; fin_cases c
    · exact Fin.ext (by show h.1 + 1 * 0 = h.1; omega)
    · exact Fin.ext (by show 0 + 1 * p.1 = p.1; omega)
    · exact Fin.ext (by show 0 + 1 * b.1 = b.1; omega)
    · exact Fin.ext (by show 0 + 1 * q.1 = q.1; omega)
  unfold tileOf
  rw [scaleTile_at, hx, hd]
  congr 4
  exact Fin.ext (by show 512 * h.1 + (4 * k.1 + b.1 % 4) = 512 * h.1 + 4 * k.1 + b.1 % 4; omega)

theorem tileHalf_at (t : FVec Ideal S64x8x128 .f32) (half : Fin 2) (a : Fin 64) (b : Fin 4) (k : Fin 128) :
    tileHalf (F := Ideal) t half (ix5 0 0 a b k) = t (ix3 a ⟨4 * half.1 + b.1, by have := half.2; have := b.2; omega⟩ k) := by
  have hb := b.2
  match half with
  | 0 =>
    pointwise [tileHalf]
  | 1 =>
    pointwise [tileHalf]

theorem scratch_at (u : BitVec 32) (x : Vec Ideal S1024x128 .i8) (d : Vec Ideal S2x16x4x128 .f16) (h half : Fin 2)
    (a : Fin 64) (b : Fin 8) (k : Fin 128) :
    scratch (F := Ideal) u x d (ix5 h half a b k) = tileOf (F := Ideal) u x d h (ix3 a ⟨4 * half.1 + b.1 % 4, by have := half.2; omega⟩ k) := by
  have hb := b.2
  unfold scratch
  refine View.canon_apply_of_pieces (Val := Elt Ideal) (S := S2x2x64x8x128) (e := .f32) (G := (fun y => tileOf (F := Ideal) u x d (y 0) (ix3 (y 2)
    ⟨4 * (y 1).1 + (y 3).1 % 4, by have : (y 1).1 < 2 := (y 1).2; omega⟩ (y 4)) : Vec Ideal S2x2x64x8x128 .f32)) _ ?_ _ ?_
  · intro p hp
    obtain ⟨h, half, e, rfl⟩ : ∃ h half e, p = scrPiece (F := Ideal) u x d h half e := by
      simp only [List.mem_cons, List.not_mem_nil, or_false] at hp
      rcases hp with e | e | e | e | e | e | e | e <;> exact ⟨_, _, _, e⟩
    intro (y : S1x1x64x4x128.Idx)
    obtain ⟨a, b, k, rfl⟩ : ∃ (a : Fin 64) (b : Fin 4) (k : Fin 128), y = ix5 (0 : Fin 1) (0 : Fin 1) a b k :=
      ⟨y 2, y 3, y 4, by
        funext c; fin_cases c
        · exact Subsingleton.elim (α := Fin 1) _ _
        · exact Subsingleton.elim (α := Fin 1) _ _
        · rfl
        · rfl
        · rfl⟩
    have hb := b.2
    have he := e.2
    have ee : (scrPiece (F := Ideal) u x d h half e).1.emb (ix5 (0 : Fin 1) (0 : Fin 1) a b k)
        = ix5 h half a (⟨4 * e.1 + b.1, by omega⟩ : Fin 8) k := by
      funext c; fin_cases c
      · exact Fin.ext (by show h.1 + 1 * 0 = h.1; omega)
      · exact Fin.ext (by show half.1 + 1 * 0 = half.1; omega)
      · exact Fin.ext (by show 0 + 1 * a.1 = a.1; omega)
      · exact Fin.ext (by show 4 * e.1 + 1 * b.1 = 4 * e.1 + b.1; omega)
      · exact Fin.ext (by show 0 + 1 * k.1 = k.1; omega)
    rw [ee]
    show tileHalf (F := Ideal) (tileOf (F := Ideal) u x d h) half (ix5 0 0 a b k)
      = tileOf (F := Ideal) u x d h (ix3 a ⟨4 * half.1 + (4 * e.1 + b.1) % 4, _⟩ k)
    rw [tileHalf_at]
    congr 2
    exact Fin.ext (by show 4 * half.1 + b.1 = 4 * half.1 + (4 * e.1 + b.1) % 4; omega)
  · have hm : ∀ h half e, scrPiece (F := Ideal) u x d h half e ∈ [scrPiece (F := Ideal) u x d 1 1 1, scrPiece u x d 1 1 0, scrPiece u x d 1 0 1, scrPiece u x d 1 0 0,
        scrPiece u x d 0 1 1, scrPiece u x d 0 1 0, scrPiece u x d 0 0 1, scrPiece u x d 0 0 0] := by
      intro h half e
      fin_cases h <;> fin_cases half <;> fin_cases e <;> simp
    refine ⟨_, hm h half ⟨b.1 / 4, by omega⟩, (Rect.mem_set_unit (inb := inb_scr _ _ _)).mpr fun c => ?_⟩
    have := a.2
    have := k.2
    fin_cases c
    · show h.1 ≤ h.1 ∧ h.1 < h.1 + 1; omega
    · show half.1 ≤ half.1 ∧ half.1 < half.1 + 1; omega
    · show 0 ≤ a.1 ∧ a.1 < 0 + 64; omega
    · show 4 * (b.1 / 4) ≤ b.1 ∧ b.1 < 4 * (b.1 / 4) + 4; omega
    · show 0 ≤ k.1 ∧ k.1 < 0 + 128; omega

/-! ## The weights -/

theorem weights_at (v : IVec S128x128 32) (s o : Vec Ideal S1x1x4x8x128 .f32) (r : Fin 512) (k : Fin 128) :
    weights (F := Ideal) v s o (ix2 r k)
      = Ideal.ofBits .fp8e4m3 (bitcast S512x128 8 v bitcasts_S128x128_w32_S512x128_w8 (ix2 r k))
          * s (ix5 0 0 ⟨r.1 / 128, by have := r.2; omega⟩ ⟨r.1 % 8, by omega⟩ k)
        - o (ix5 0 0 ⟨r.1 / 128, by have := r.2; omega⟩ ⟨r.1 % 8, by omega⟩ k) := by
  pointwise [weights]

/-- The weight at row `o = 512 h + 4 k + b` of the block and byte column `i` of the quantised weights. -/
def wAt (x1 : Vec Ideal S1024x2048 .i8) (x2 x3 : Vec Ideal S2x16x4x128 .f16) (x4 x5 : Vec Ideal S1024x128 .i8)
    (h half : Fin 2) (k : Fin 128) (b : Fin 4) (i : Fin 2048) : EReal :=
  weight (x1 (ix2 ⟨512 * h.1 + 4 * k.1 + b.1, by have := h.2; have := k.2; have := b.2; omega⟩ i)) half
    (x4 (ix2 ⟨512 * h.1 + 4 * k.1 + b.1, by have := h.2; have := k.2; have := b.2; omega⟩
      ⟨2 * (i.1 / 32) + half.1, by have := i.2; have := half.2; omega⟩))
    (x5 (ix2 ⟨512 * h.1 + 4 * k.1 + b.1, by have := h.2; have := k.2; have := b.2; omega⟩
      ⟨2 * (i.1 / 32) + half.1, by have := i.2; have := half.2; omega⟩))
    (x2 (ix4 h ⟨i.1 / 128, by have := i.2; omega⟩ b k)) (x3 (ix4 h ⟨i.1 / 128, by have := i.2; omega⟩ b k))

theorem ofBits_one : Ideal.ofBits FTy.f32 0x3F800000#32 = 1 := by pointwise

theorem wOf_at (x1 : Vec Ideal S1024x2048 .i8) (x2 x3 : Vec Ideal S2x16x4x128 .f16) (x4 x5 : Vec Ideal S1024x128 .i8)
    (h half : Fin 2) (c : Fin 16) (z : Fin 128) (b : Fin 4) (k : Fin 128) :
    wOf (F := Ideal) x1 (scratch (F := Ideal) 0x44000000#32 x4 x2) (scratch (F := Ideal) 0x3F800000#32 x5 x3) h half c
        (ix2 ⟨4 * z.1 + b.1, by have := z.2; have := b.2; omega⟩ k)
      = wAt x1 x2 x3 x4 x5 h half k b ⟨128 * c.1 + z.1, by have := z.2; have := c.2; omega⟩ := by
  have hz := z.2
  have hb := b.2
  have hc := c.2
  have hq : ∀ p q : ℕ, ∀ hp hq, View.ld (Val := Elt Ideal) (e' := .i8) x1 (Rect.unit ![512 * h.1, 128 * c.1] S512x128.size (inb_q h c)) (ix2 (⟨p, hp⟩ : Fin 512) (⟨q, hq⟩ : Fin 128))
      = x1 (ix2 ⟨512 * h.1 + p, by have := h.2; omega⟩ ⟨128 * c.1 + q, by omega⟩) := fun p q hp hq => by
    show x1 _ = x1 _
    congr 1
    funext a; fin_cases a
    · exact Fin.ext (by show 512 * h.1 + 1 * p = 512 * h.1 + p; omega)
    · exact Fin.ext (by show 128 * c.1 + 1 * q = 128 * c.1 + q; omega)
  have hs : ∀ (S : Vec Ideal S2x2x64x8x128 .f32) (g : Fin 4) (e : Fin 8),
      View.ld (Val := Elt Ideal) (e' := .f32) S (Rect.unit ![h.1, half.1, 4 * c.1, 0, 0] S1x1x4x8x128.size (inb_s h half c)) (ix5 0 0 g e k)
      = S (ix5 h half ⟨4 * c.1 + g.1, by have := g.2; omega⟩ e k) := fun S g e => by
    show S _ = S _
    congr 1
    funext a; fin_cases a
    · exact Fin.ext (by show h.1 + 1 * 0 = h.1; omega)
    · exact Fin.ext (by show half.1 + 1 * 0 = half.1; omega)
    · exact Fin.ext (by show 4 * c.1 + 1 * g.1 = 4 * c.1 + g.1; omega)
    · exact Fin.ext (by show 0 + 1 * e.1 = e.1; omega)
    · exact Fin.ext (by show 0 + 1 * k.1 = k.1; omega)
  unfold wOf
  rw [weights_at, nibbles_byte, words_byte, hs, hs, hq, scratch_at, scratch_at, tileOf_at, tileOf_at, ofBits_one, weight_eq]
  have hh := half.2
  unfold wAt
  congr 1
  all_goals congr 2
  all_goals exact Fin.ext (by dsimp only; omega)

end Cert.KernelIdeal.Hand

end
-- ==== Proof.ProductAt.lean ====
/-
  The product's block at an index, over the extended reals.
-/
module

public import proofs.«01_k».proof.Proof.QuantiseAt
public import proofs.«01_k».proof.Proof.WeightsAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Cert.Meaning

theorem product_at (A : FVec Ideal S32x512 .bf16) (B : Fin 2 → FVec Ideal S512x128 .bf16) (r : Fin 32) (h : Fin 2) (k : Fin 128) :
    (matmul (F := Ideal) dot_S32x512_S512x256_S32x256_1_0_0_1_n_n none A
      (concatenate S512x256 1 [⟨S512x128, B 0⟩, ⟨S512x128, B 1⟩] concatenates_S512x128_S512x128_S512x256_d1)
      (constant S32x256 .f32 0x00000000#32) : FVec Ideal S32x256 .f32) (ix2 r ⟨128 * h.1 + k.1, by have := h.2; have := k.2; omega⟩)
      = ∑ x : Fin 512, A (ix2 r x) * B h (ix2 x k) := by
  have hk := k.2
  match h with
  | 0 => pointwise
  | 1 => pointwise

/-- A sum over the spread columns which keeps one row of each word is a sum over the words. -/
theorem sum_spread (f : Fin 128 → EReal) (g : Fin 512 → EReal) (b : Fin 4) :
    (∑ x : Fin 512, (if x.1 % 4 = b.1 then f ⟨x.1 / 4, by have := x.2; omega⟩ else 0) * g x)
      = ∑ z : Fin 128, f z * g ⟨4 * z.1 + b.1, by have := z.2; have := b.2; omega⟩ := by
  rw [← (finProdFinEquiv (m := 128) (n := 4)).sum_comp, Fintype.sum_prod_type]
  refine Finset.sum_congr rfl fun z _ => ?_
  have hb := b.2
  rw [Finset.sum_eq_single b]
  · have e : ((finProdFinEquiv (z, b) : Fin (128 * 4)) : Fin 512) = ⟨4 * z.1 + b.1, by have := z.2; omega⟩ :=
      Fin.ext (by show b.1 + 4 * z.1 = 4 * z.1 + b.1; omega)
    rw [e, if_pos (by show (4 * z.1 + b.1) % 4 = b.1; omega)]
    congr 2
    exact Fin.ext (by show (4 * z.1 + b.1) / 4 = z.1; omega)
  · intro b' _ hne
    have : b'.1 ≠ b.1 := fun e => hne (Fin.ext e)
    have hb' := b'.2
    rw [if_neg (by show ¬ (b'.1 + 4 * z.1) % 4 = b.1; omega), zero_mul]
  · intro h; exact absurd (Finset.mem_univ _) h

/-- The activation which byte column `i` meets in one half of the nibbles. -/
def aAt (x0 : Vec Ideal S8x4096 .bf16) (half : Fin 2) (r : Fin 8) (i : Fin 2048) : EReal :=
  actAt x0 r ⟨64 * (i.1 / 32) + 32 * half.1 + i.1 % 32, by have := i.2; have := half.2; omega⟩

theorem aAt_of (x0 : Vec Ideal S8x4096 .bf16) (half : Fin 2) (r : Fin 8) (c : Fin 16) (z : Fin 128) (b : Fin 4) :
    act (xrow x0 r c) (pos half ⟨4 * z.1 + b.1, by have := z.2; have := b.2; omega⟩)
      = aAt x0 half r ⟨128 * c.1 + z.1, by have := c.2; have := z.2; omega⟩ := by
  have hc := c.2
  have hz := z.2
  have hh := half.2
  have hb := b.2
  unfold aAt
  rw [← actAt_of x0 r c _ (by have := (pos half ⟨4 * z.1 + b.1, by omega⟩).2; omega)]
  congr 1
  exact Fin.ext (by
    show 256 * c.1 + ((4 * z.1 + b.1) / 4 / 32 * 64 + (4 * z.1 + b.1) / 4 % 32 + 32 * half.1)
      = 64 * ((128 * c.1 + z.1) / 32) + 32 * half.1 + (128 * c.1 + z.1) % 32
    omega)

section
variable (x0 : Vec Ideal S8x4096 .bf16) (x1 : Vec Ideal S1024x2048 .i8) (x2 x3 : Vec Ideal S2x16x4x128 .f16)
  (x4 x5 : Vec Ideal S1024x128 .i8)

theorem flat_at (M : Vec Ideal S1x32x512 .bf16) (r : Fin 32) (x : Fin 512) :
    shapeCast S32x512 M shapeCasts_S1x32x512_S32x512 (ix2 r x) = M (ix3 0 r x) := by
  pointwise

/-- A chunk of the left operand. -/
theorem tile_at (L : Vec Ideal S2x32x8192 .bf16) (half : Fin 2) (c : Fin 16) (r : Fin 32) (x : Fin 512) :
    View.ld (Val := Elt Ideal) (e' := .bf16) L (Rect.unit ![half.1, 0, 512 * c.1] S1x32x512.size (inb_l half c)) (ix3 (0 : Fin 1) r x)
      = L (ix3 half r ⟨512 * c.1 + x.1, by have := c.2; have := x.2; omega⟩) := by
  show L _ = L _
  congr 1
  funext a; fin_cases a
  · exact Fin.ext (by show half.1 + 1 * 0 = half.1; omega)
  · exact Fin.ext (by show 0 + 1 * r.1 = r.1; omega)
  · exact Fin.ext (by show 512 * c.1 + 1 * x.1 = 512 * c.1 + x.1; omega)

/-- One half of the nibbles' part of the product at one row of the block. -/
def term (half : Fin 2) (r : Fin 8) (h : Fin 2) (k : Fin 128) (b : Fin 4) (i : Fin 2048) : EReal :=
  aAt x0 half r i * wAt x1 x2 x3 x4 x5 h half k b i

theorem prod_at (half : Fin 2) (c : Fin 16) (b : Fin 4) (r : Fin 8) (h : Fin 2) (k : Fin 128) :
    prod (F := Ideal) x1 (scratch (F := Ideal) 0x44000000#32 x4 x2) (scratch (F := Ideal) 0x3F800000#32 x5 x3) (lhsOf x0) half c
        (ix2 ⟨b.1 * 8 + r.1, by have := b.2; have := r.2; omega⟩ ⟨128 * h.1 + k.1, by have := h.2; have := k.2; omega⟩)
      = ∑ z : Fin 128, term x0 x1 x2 x3 x4 x5 half r h k b ⟨128 * c.1 + z.1, by have := c.2; have := z.2; omega⟩ := by
  have hl : ∀ (x : Fin 512), (shapeCast S32x512 (View.ld (Val := Elt Ideal) (e' := .bf16) (lhsOf x0)
        (Rect.unit ![half.1, 0, 512 * c.1] S1x32x512.size (inb_l half c)) : Vec Ideal S1x32x512 .bf16) shapeCasts_S1x32x512_S32x512)
        (ix2 ⟨b.1 * 8 + r.1, by have := b.2; have := r.2; omega⟩ x)
      = if x.1 % 4 = b.1 then act (xrow x0 r c) (pos half x) else 0 := fun x => by
    rw [← lhsOf_at]
    exact (flat_at _ _ x).trans (tile_at _ half c _ x)
  unfold prod
  refine (product_at _ (fun h => wOf (F := Ideal) x1 (scratch (F := Ideal) 0x44000000#32 x4 x2) (scratch (F := Ideal) 0x3F800000#32 x5 x3) h half c) _ h k).trans ?_
  simp only [hl]
  have hf : ∀ x : Fin 512, (if x.1 % 4 = b.1 then act (xrow x0 r c) (pos half x) else 0)
      = if x.1 % 4 = b.1 then aAt x0 half r ⟨128 * c.1 + x.1 / 4, by have := x.2; have := c.2; omega⟩ else 0 := fun x => by
    split
    · rename_i e
      rw [← aAt_of x0 half r c ⟨x.1 / 4, by have := x.2; omega⟩ b]
      congr 2
      exact Fin.ext (by dsimp only; omega)
    · rfl
  simp only [hf]
  refine (sum_spread (fun z => aAt x0 half r ⟨128 * c.1 + z.1, by have := z.2; have := c.2; omega⟩) _ b).trans ?_
  refine Finset.sum_congr rfl fun z _ => ?_
  rw [wOf_at]
  rfl

/-- The accumulator after `n` chunks. -/
theorem acc_at (n : ℕ) (hn : n ≤ 16) (b : Fin 4) (r : Fin 8) (h : Fin 2) (k : Fin 128) :
    acc (F := Ideal) x1 (scratch (F := Ideal) 0x44000000#32 x4 x2) (scratch (F := Ideal) 0x3F800000#32 x5 x3) (lhsOf x0) n hn
        (ix2 ⟨b.1 * 8 + r.1, by have := b.2; have := r.2; omega⟩ ⟨128 * h.1 + k.1, by have := h.2; have := k.2; omega⟩)
      = ∑ c : Fin n, ((∑ z : Fin 128, term x0 x1 x2 x3 x4 x5 0 r h k b ⟨128 * c.1 + z.1, by have := c.2; have := z.2; omega⟩)
          + ∑ z : Fin 128, term x0 x1 x2 x3 x4 x5 1 r h k b ⟨128 * c.1 + z.1, by have := c.2; have := z.2; omega⟩) := by
  induction n with
  | zero =>
    rw [Finset.univ_eq_empty, Finset.sum_empty]
    unfold acc
    pointwise
  | succ n ih =>
    rw [Fin.sum_univ_castSucc]
    refine Eq.trans ?_ (congrArg₂ (· + ·) (ih (by omega)) (congrArg₂ (· + ·) (prod_at x0 x1 x2 x3 x4 x5 0 ⟨n, hn⟩ b r h k)
      (prod_at x0 x1 x2 x3 x4 x5 1 ⟨n, hn⟩ b r h k)))
    exact add_assoc _ _ _

/-- The sum over the chunks and their columns is the sum over all columns. -/
theorem sum_chunks (f : Fin 2048 → EReal) :
    (∑ c : Fin 16, ∑ z : Fin 128, f ⟨128 * c.1 + z.1, by have := c.2; have := z.2; omega⟩) = ∑ i : Fin 2048, f i := by
  rw [← (finProdFinEquiv (m := 16) (n := 128)).sum_comp, Fintype.sum_prod_type]
  refine Finset.sum_congr rfl fun c _ => Finset.sum_congr rfl fun z _ => congrArg f (Fin.ext ?_)
  show 128 * c.1 + z.1 = z.1 + 128 * c.1
  omega

/-- The block of the product. -/
theorem yBlock_at (b : Fin 4) (r : Fin 8) (h : Fin 2) (k : Fin 128) :
    yBlock (F := Ideal) x1 x2 x3 x4 x5 (lhsOf x0)
        (ix3 0 ⟨b.1 * 8 + r.1, by have := b.2; have := r.2; omega⟩ ⟨128 * h.1 + k.1, by have := h.2; have := k.2; omega⟩)
      = (∑ i, term x0 x1 x2 x3 x4 x5 0 r h k b i) + ∑ i, term x0 x1 x2 x3 x4 x5 1 r h k b i := by
  have e := acc_at x0 x1 x2 x3 x4 x5 16 (Nat.le_refl _) b r h k
  rw [Finset.sum_add_distrib, sum_chunks, sum_chunks] at e
  rw [← e]
  unfold yBlock
  generalize acc (F := Ideal) x1 _ _ (lhsOf x0) 16 (Nat.le_refl _) = A
  pointwise
end

end Cert.KernelIdeal.Hand

end
-- ==== Proof.ReferenceAt.lean ====
/-
  The reference's results at an index, over the extended reals.
-/
module

public import proofs.«01_k».proof.Proof.Gen.ReferenceIdeal.Read
public import proofs.«01_k».proof.Proof.Meaning
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Meaning
open Idealize.ShloMosaic Idealize.ShloMosaic.TcCoe Idealize.ShloMosaic.Tactic

/-- Row `r` of super-block `s` of the activations. -/
def xr (X : (⟨S8x1x4096, .bf16⟩ : BufTy).Contents (Elt Ideal)) (r : Fin 8) (s : Fin 16) : Fin 256 → EReal :=
  fun k => X (ix3 r 0 ⟨256 * s.1 + k.1, by have := s.2; have := k.2; omega⟩)

section
variable (X : (⟨S8x1x4096, .bf16⟩ : BufTy).Contents (Elt Ideal))

theorem v2_at (r : Fin 8) (s : Fin 16) (k : Fin 256) : val_main_v2 (F := Ideal) X (ix4 r 0 s k) = xr X r s k := by
  pointwise [val_main_v2, val_main_v1]
  unfold xr
  congr 2
  exact Fin.ext (by dsimp only; omega)

theorem v4_at (r : Fin 8) (s : Fin 16) : val_main_v4 (F := Ideal) X (ix3 r 0 s) = amax (xr X r s) := by
  have h := v2_at X r s
  pointwise [val_main_v4, val_main_v3, val_main_cst]
  simp only [h]
  rfl

theorem v9_at (r : Fin 8) (s : Fin 16) : val_main_v9 (F := Ideal) X (ix3 r 0 s) = scl (xr X r s) := by
  have h := v4_at X r s
  pointwise [val_main_v9, val_main_v6, val_main_v5, val_main_v8, val_main_v7, val_main_cst_0, val_main_cst_1, val_main_cst_2, val_main_call0_v0, val_main_call0_v1]
  rw [h]
  have e : id (constant (F := Ideal) S_ FTy.f32 1065353216#32) ix0 = 1 := by show constant (F := Ideal) S_ FTy.f32 1065353216#32 ix0 = 1; pointwise
  rw [e]
  rfl

theorem v14_at (r : Fin 8) (s : Fin 16) (k : Fin 256) : val_main_v14 (F := Ideal) X (ix4 r 0 s k) = code (xr X r s) k := by
  have h := v2_at X r s k
  have h9 := v9_at X r s
  pointwise [val_main_v14, val_main_v13, val_main_v12, val_main_v11, val_main_v10, val_main_call2_v4, val_main_call2_v3, val_main_call2_v2, val_main_call2_v1, val_main_call2_v0, val_main_cst_3, val_main_cst_4]
  rw [h, h9]
  rfl

theorem v17_at (r : Fin 8) (j : Fin 4096) : val_main_v17 (F := Ideal) X (ix3 r 0 j)
    = Ideal.fptosi 8 (code (xr X r ⟨j.1 / 256, by have := j.2; omega⟩) ⟨j.1 % 256, by omega⟩) := by
  rw [← code_byte, ← v14_at]
  pointwise [val_main_v17, val_main_v16, val_main_v15]
  rfl

theorem v24_at (r : Fin 8) (s : Fin 16) (k : Fin 256) : val_main_v24 (F := Ideal) X (ix4 r 0 s k) = act (xr X r s) k := by
  have h := v17_at X r ⟨256 * s.1 + k.1, by have := s.2; have := k.2; omega⟩
  have h9 := v9_at X r s
  pointwise [val_main_v24, val_main_v20, val_main_v19, val_main_v18, val_main_v23, val_main_v22, val_main_v21]
  have hk := k.2
  have e : (⟨s.1 * 256 + k.1, by have := s.2; omega⟩ : Fin 4096) = ⟨256 * s.1 + k.1, by have := s.2; omega⟩ := Fin.ext (by dsimp only; omega)
  have e1 : (⟨(256 * s.1 + k.1) / 256, by have := s.2; omega⟩ : Fin 16) = s := Fin.ext (by dsimp only; omega)
  have e2 : (⟨(256 * s.1 + k.1) % 256, by omega⟩ : Fin 256) = k := Fin.ext (by dsimp only; omega)
  rw [e, h, h9]
  dsimp only
  rw [e1, e2]
  exact congrArg (· * scl (xr X r s)) (code_back (xr X r s) k)

/-- The dequantised activation at position `j` of row `r`. -/
def actRef (r : Fin 8) (j : Fin 4096) : EReal :=
  act (xr X r ⟨j.1 / 256, by have := j.2; omega⟩) ⟨j.1 % 256, by omega⟩

theorem v28_at (r : Fin 8) (i : Fin 2048) : val_main_v28 (F := Ideal) X (ix3 r 0 i)
    = actRef X r ⟨64 * (i.1 / 32) + 32 * (0 : Fin 2).1 + i.1 % 32, by have := i.2; omega⟩ := by
  have h := fun s k => v24_at X r s k
  pointwise [val_main_v28, val_main_v27, val_main_v26, val_main_v25]
  rw [h]
  unfold actRef
  congr 2 <;> first | omega | (dsimp only; omega) | exact Fin.ext (by dsimp only; omega)

theorem v31_at (r : Fin 8) (i : Fin 2048) : val_main_v31 (F := Ideal) X (ix3 r 0 i)
    = actRef X r ⟨64 * (i.1 / 32) + 32 * (1 : Fin 2).1 + i.1 % 32, by have := i.2; omega⟩ := by
  have h := fun s k => v24_at X r s k
  pointwise [val_main_v31, val_main_v30, val_main_v29, val_main_v25]
  rw [h]
  unfold actRef
  congr 2 <;> first | omega | (dsimp only; omega) | exact Fin.ext (by dsimp only; omega)
end

theorem low_nat : ∀ n : Fin 256, ((BitVec.ofNat 8 n.1).setWidth 32 &&& 15#32).toInt = ((n.1 % 16 : ℕ) : ℤ) := by decide +kernel

theorem high_nat : ∀ n : Fin 256, (((BitVec.ofNat 8 n.1).setWidth 32).sshiftRight 4).toInt = ((n.1 / 16 : ℕ) : ℤ) := by decide +kernel

theorem low_num (q : BitVec 8) : FloatOps.sitofp (F := Ideal) .f32 (IntOp.andi (q.setWidth 32) 15#32) = (((nib q 0 : ℕ) : ℝ) : EReal) := by
  have h := low_nat ⟨q.toNat, q.isLt⟩
  rw [BitVec.ofNat_toNat, BitVec.setWidth_eq] at h
  show (((q.setWidth 32 &&& 15#32).toInt : ℝ) : EReal) = _
  rw [h]
  simp only [nib, Int.cast_natCast]

theorem high_num (q : BitVec 8) : FloatOps.sitofp (F := Ideal) .f32 ((q.setWidth 32).sshiftRight 4) = (((nib q 1 : ℕ) : ℝ) : EReal) := by
  have h := high_nat ⟨q.toNat, q.isLt⟩
  rw [BitVec.ofNat_toNat, BitVec.setWidth_eq] at h
  show ((((q.setWidth 32).sshiftRight 4).toInt : ℝ) : EReal) = _
  rw [h]
  simp only [nib, Int.cast_natCast]

section
variable (x1 : (⟨S14336x2048, .i8⟩ : BufTy).Contents (Elt Ideal)) (x4 x5 : (⟨S14336x128, .i8⟩ : BufTy).Contents (Elt Ideal)) (r0 r1 : (⟨S14336x16, .f32⟩ : BufTy).Contents (Elt Ideal))

/-- The weight of output row `o` and byte column `i`. -/
def wRef (half : Fin 2) (o : Fin 14336) (i : Fin 2048) : EReal :=
  weight (x1 (ix2 o i)) half (x4 (ix2 o ⟨2 * (i.1 / 32) + half.1, by have := i.2; have := half.2; omega⟩))
    (x5 (ix2 o ⟨2 * (i.1 / 32) + half.1, by have := i.2; have := half.2; omega⟩))
    (r0 (ix2 o ⟨i.1 / 128, by have := i.2; omega⟩)) (r1 (ix2 o ⟨i.1 / 128, by have := i.2; omega⟩))

theorem v62_at (o : Fin 14336) (i : Fin 2048) : val_main_v62 (F := Ideal) x1 x4 x5 r0 r1 (ix2 o i) = wRef x1 x4 x5 r0 r1 0 o i := by
  have hi := i.2
  pointwise [val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_c]
  rw [low_num]
  have e1 : (⟨i.1 / 32 / 4, by omega⟩ : Fin 16) = ⟨i.1 / 128, by omega⟩ := Fin.ext (by dsimp only; omega)
  have e2 : (⟨i.1 / 32 * 2, by omega⟩ : Fin 128) = ⟨2 * (i.1 / 32) + (0 : Fin 2).1, by show 2 * (i.1 / 32) + 0 < 128; omega⟩ :=
    Fin.ext (by show i.1 / 32 * 2 = 2 * (i.1 / 32) + 0; omega)
  rw [e1, e2]
  rfl

theorem v84_at (o : Fin 14336) (i : Fin 2048) : val_main_v84 (F := Ideal) x1 x4 x5 r0 r1 (ix2 o i) = wRef x1 x4 x5 r0 r1 1 o i := by
  have hi := i.2
  pointwise [val_main_v84, val_main_v83, val_main_v82, val_main_v81, val_main_v80, val_main_v79, val_main_v78, val_main_v77,
    val_main_v76, val_main_v75, val_main_v74, val_main_v73, val_main_v72, val_main_v71, val_main_v70, val_main_v69, val_main_v68,
    val_main_v67, val_main_v66, val_main_v65, val_main_v64, val_main_v63, val_main_v40, val_main_v39, val_main_v38, val_main_v37,
    val_main_v36, val_main_v35, val_main_v34, val_main_v33, val_main_v32, val_main_c_5]
  have e1 : (⟨i.1 / 32 / 4, by omega⟩ : Fin 16) = ⟨i.1 / 128, by omega⟩ := Fin.ext (by dsimp only; omega)
  have e2 : (⟨i.1 / 32 * 2 + 1, by omega⟩ : Fin 128) = ⟨2 * (i.1 / 32) + (1 : Fin 2).1, by show 2 * (i.1 / 32) + 1 < 128; omega⟩ :=
    Fin.ext (by show i.1 / 32 * 2 + 1 = 2 * (i.1 / 32) + 1; omega)
  rw [e1, e2]
  refine (congrArg (fun z => z * _ - _) (high_num (x1 (ix2 o i)))).trans ?_
  rfl

/-- The product at row `r` and output row `o`. -/
theorem v88_at (X : (⟨S8x1x4096, .bf16⟩ : BufTy).Contents (Elt Ideal)) (r : Fin 8) (o : Fin 14336) :
    val_main_v88 (F := Ideal) X x1 x4 x5 r0 r1 (ix3 r 0 o)
      = (∑ i : Fin 2048, actRef X r ⟨64 * (i.1 / 32) + 32 * (0 : Fin 2).1 + i.1 % 32, by have := i.2; omega⟩ * wRef x1 x4 x5 r0 r1 0 o i)
        + ∑ i : Fin 2048, actRef X r ⟨64 * (i.1 / 32) + 32 * (1 : Fin 2).1 + i.1 % 32, by have := i.2; omega⟩ * wRef x1 x4 x5 r0 r1 1 o i := by
  rw [val_main_v88_apply, val_main_v87_apply, val_main_v85_apply, val_main_v86_apply]
  refine congrArg₂ (· + ·) ?_ ?_
  · refine Finset.sum_congr rfl fun i _ => congrArg₂ (· * ·) ((congrArg _ ?_).trans (v28_at X r i)) ((congrArg _ ?_).trans (v62_at x1 x4 x5 r0 r1 o i))
    · funext a; fin_cases a <;> rfl
    · funext a; fin_cases a <;> rfl
  · refine Finset.sum_congr rfl fun i _ => congrArg₂ (· * ·) ((congrArg _ ?_).trans (v31_at X r i)) ((congrArg _ ?_).trans (v84_at x1 x4 x5 r0 r1 o i))
    · funext a; fin_cases a <;> rfl
    · funext a; fin_cases a <;> rfl
end

end Cert.ReferenceIdeal.Hand

end
-- ==== Proof.Tie.lean ====
/-
  The kernel's three results are the reference's, over the extended reals.
-/
module

public import proofs.«01_k».proof.Proof.ArraysAt
public import proofs.«01_k».proof.Proof.ProductAt
public import proofs.«01_k».proof.Proof.ReferenceAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Cert.Meaning

variable (m : (ℓ : Loc nD τ sig) → Buf (Elt Ideal) ℓ)

section
variable (c : Dev nD)

theorem row_eq (t : Fin cfg0.N) (r : Fin 8) (s : Fin 16) :
    xrow (iblk m c 0 t : Vec Ideal S8x4096 .bf16) r s
      = Cert.ReferenceIdeal.Hand.xr (m ((c.tc : Thread nD τ).loc main_arg0)) r s :=
  funext fun k => x_at m c t r _

/-- The kernel's codes are the reference's. -/
theorem codes_eq : endsAt m c main_v9 = Cert.ReferenceIdeal.Read.val_main_v17 (F := Ideal) (m ((c.tc : Thread nD τ).loc main_arg0)) := by
  funext (i : S8x1x4096.Idx)
  obtain ⟨r, u, j, rfl⟩ : ∃ (r : Fin 8) (u : Fin 1) (j : Fin 4096), i = ix3 r u j := ⟨i 0, i 1, i 2, eq_ix3 i⟩
  obtain rfl : u = 0 := Subsingleton.elim _ _
  rw [ends_codes, codesOf_at]
  refine Eq.trans ?_ (Cert.ReferenceIdeal.Hand.v17_at _ r j).symm
  unfold codeAt xBlk
  rw [row_eq]

/-- And its scales. -/
theorem scales_eq : endsAt m c main_v10 = Cert.ReferenceIdeal.Read.val_main_v9 (F := Ideal) (m ((c.tc : Thread nD τ).loc main_arg0)) := by
  funext (i : S8x1x16.Idx)
  obtain ⟨r, u, s, rfl⟩ : ∃ (r : Fin 8) (u : Fin 1) (s : Fin 16), i = ix3 r u s := ⟨i 0, i 1, i 2, eq_ix3 i⟩
  obtain rfl : u = 0 := Subsingleton.elim _ _
  rw [ends_scales, scalesOf_at]
  refine Eq.trans ?_ (Cert.ReferenceIdeal.Hand.v9_at _ r s).symm
  unfold xBlk
  rw [row_eq]

/-- One product of the kernel's sum is the reference's product at the same row and column. -/
theorem term_eq (half : Fin 2) (t : Fin cfg0.N) (r : Fin 8) (h : Fin 2) (k : Fin 128) (b : Fin 4) (i : Fin 2048) :
    term (xBlk m c) (iblk m c 1 t) (iblk m c 2 t) (iblk m c 3 t) (iblk m c 4 t) (iblk m c 5 t) half r h k b i
      = Cert.ReferenceIdeal.Hand.actRef (m ((c.tc : Thread nD τ).loc main_arg0)) r
          ⟨64 * (i.1 / 32) + 32 * half.1 + i.1 % 32, by have := i.2; have := half.2; omega⟩
        * Cert.ReferenceIdeal.Hand.wRef (m ((c.tc : Thread nD τ).loc main_arg1)) (m ((c.tc : Thread nD τ).loc main_arg4))
          (m ((c.tc : Thread nD τ).loc main_arg5)) (m ((c.tc : Thread nD τ).loc main_arg2)) (m ((c.tc : Thread nD τ).loc main_arg3)) half
          ⟨1024 * t.val + (512 * h.1 + 4 * k.1 + b.1), by have := point_lt t; have := h.2; have := k.2; have := b.2; omega⟩ i := by
  unfold term
  refine congrArg₂ (· * ·) ?_ ?_
  · unfold aAt actAt xBlk
    rw [row_eq]
    rfl
  · unfold wAt
    rw [qs_at, sc_at, mn_at, d_at, dmin_at]
    rfl

/-- The kernel's product is the reference's. -/
theorem y_eq : endsAt m c main_v8 = Cert.ReferenceIdeal.Read.val_main_v88 (F := Ideal) (m ((c.tc : Thread nD τ).loc main_arg0))
    (m ((c.tc : Thread nD τ).loc main_arg1)) (m ((c.tc : Thread nD τ).loc main_arg4)) (m ((c.tc : Thread nD τ).loc main_arg5))
    (m ((c.tc : Thread nD τ).loc main_arg2)) (m ((c.tc : Thread nD τ).loc main_arg3)) := by
  funext (i : S8x1x14336.Idx)
  obtain ⟨r, u, o, rfl⟩ : ∃ (r : Fin 8) (u : Fin 1) (o : Fin 14336), i = ix3 r u o := ⟨i 0, i 1, i 2, eq_ix3 i⟩
  obtain rfl : u = 0 := Subsingleton.elim _ _
  obtain ⟨t, h, k, b, rfl⟩ : ∃ (t : Fin 14) (h : Fin 2) (k : Fin 128) (b : Fin 4),
      o = ⟨1024 * t.1 + (512 * h.1 + 4 * k.1 + b.1), by have := t.2; have := h.2; have := k.2; have := b.2; omega⟩ :=
    ⟨⟨o.1 / 1024, by have := o.2; omega⟩, ⟨o.1 % 1024 / 512, by omega⟩, ⟨o.1 % 512 / 4, by omega⟩, ⟨o.1 % 4, by omega⟩,
      Fin.ext (by dsimp only; omega)⟩
  refine (ends_y m c r t h k b).trans (Eq.trans ?_ (Cert.ReferenceIdeal.Hand.v88_at _ _ _ _ _ _ r _).symm)
  show yBlk m c ⟨t.val, _⟩ (ix3 (0 : Fin 1) (⟨b.1 * 8 + r.1, _⟩ : Fin 32) (⟨128 * h.1 + k.1, _⟩ : Fin 256)) = _
  unfold yBlk
  rw [yBlock_at]
  exact congrArg₂ (· + ·) (Finset.sum_congr rfl fun i _ => term_eq m c 0 _ r h k b i)
    (Finset.sum_congr rfl fun i _ => term_eq m c 1 _ r h k b i)

end

end Cert.KernelIdeal.Hand

end
-- ==== Proof.lean ====
/-
  The certificate. `Proof/Data.lean` is the kernel's run at every reading of the floats, `Proof/KernelFrame.lean` its
  frame at machine words; over the extended reals, the results at an index are `Proof/Tie.lean` and the modules it
  stands on, and the reference's run is `Proof/ReferenceRun.lean`.
-/
module

public import proofs.«01_k».proof.Defs
public import proofs.«01_k».proof.Proof.Gen.Kernel
public import proofs.«01_k».proof.Proof.KernelFrame
public import proofs.«01_k».proof.Proof.ReferenceRun
public import proofs.«01_k».proof.Proof.Tie
public import Idealize.ShloMosaic.Adequacy
public import Idealize.ShloMosaic.Init

@[expose] public section

noncomputable section

namespace Cert.Proof

open Idealize.ShloMosaic Idealize.SL.Sem

/-- Over the extended reals the kernel and the reference end with equal results. -/
theorem algebraic : Cert.algebraic_KernelIdeal_ReferenceIdeal := by
  intro m g m' g' _ hagree
  refine ⟨fun c => Cert.KernelIdeal.Hand.endsAt m c Cert.KernelIdeal.main_v8, fun c => Cert.KernelIdeal.Hand.endsAt m c Cert.KernelIdeal.main_v9,
    fun c => Cert.KernelIdeal.Hand.endsAt m c Cert.KernelIdeal.main_v10, Cert.KernelIdeal.Hand.run m g,
    (θ_run _ _ _).mono (fun r h c => ?_) (Cert.ReferenceIdeal.Hand.run m' g')⟩
  obtain ⟨hy, hcodes, hscales, hargs⟩ := h c
  obtain ⟨e0, e1, e2, e3, e4, e5⟩ := hagree c
  rw [e0, e1, e2, e3, e4, e5] at hy
  rw [e0] at hcodes hscales
  exact ⟨hy.trans (Cert.KernelIdeal.Hand.y_eq m c).symm, hcodes.trans (Cert.KernelIdeal.Hand.codes_eq m c).symm,
    hscales.trans (Cert.KernelIdeal.Hand.scales_eq m c).symm, hargs⟩

theorem claim : Cert.Claim :=
  ⟨Cert.Kernel.Gen.facts, Cert.KernelIdeal.Gen.facts, Cert.ReferenceIdeal.Gen.facts, Cert.Kernel.Hand.frame,
    fun m ρ _ => Cert.KernelIdeal.Hand.frame m ρ, fun m ρ _ => Cert.ReferenceIdeal.Gen.frame m ρ, trivial, algebraic⟩

end Cert.Proof

end
